-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S4x8192x5120 : Shape := ⟨3, ![4, 8192, 5120]⟩
abbrev S4x8192x40 : Shape := ⟨3, ![4, 8192, 40]⟩
abbrev S8192x5120 : Shape := ⟨2, ![8192, 5120]⟩
abbrev S8192 : Shape := ⟨1, ![8192]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : FVec F S4x8192x5120 .fp8e5m2) (main_arg1 : FVec F S4x8192x40 .f32) (main_arg2 : FVec F S8192x5120 .f32) (main_arg3 : FVec F S8192x5120 .f32) (main_arg4 : FVec F S8192x5120 .f32) (main_arg5 : IVec S8192 32) : IVec S8192 1 :=
  let main_c : IVec S_ 32 := constantI S_ 32 0#32
  let main_v0 : IVec S8192 32 := broadcastInDim S8192 ![] bcast_S_S8192 main_c
  let main_v1 : IVec S8192 1 := cmpi .ne main_arg5 main_v0
  main_v1
-- ==== Kernel.lean ====
abbrev S4x8192x5120 : Shape := ⟨3, ![4, 8192, 5120]⟩
abbrev S4x8192x40 : Shape := ⟨3, ![4, 8192, 40]⟩
abbrev S8192x5120 : Shape := ⟨2, ![8192, 5120]⟩
abbrev S8192 : Shape := ⟨1, ![8192]⟩
abbrev S4x40x8192 : Shape := ⟨3, ![4, 40, 8192]⟩
abbrev S64x1x128 : Shape := ⟨3, ![64, 1, 128]⟩
abbrev S40x8192 : Shape := ⟨2, ![40, 8192]⟩
abbrev S4x128x5120 : Shape := ⟨3, ![4, 128, 5120]⟩
abbrev S4x40x128 : Shape := ⟨3, ![4, 40, 128]⟩
abbrev S1x1x128 : Shape := ⟨3, ![1, 1, 128]⟩
abbrev S128x5120 : Shape := ⟨2, ![128, 5120]⟩
abbrev S40x128 : Shape := ⟨2, ![40, 128]⟩
abbrev S4x128x128 : Shape := ⟨3, ![4, 128, 128]⟩
abbrev S4x32x128 : Shape := ⟨3, ![4, 32, 128]⟩
abbrev S128x128 : Shape := ⟨2, ![128, 128]⟩
abbrev S1x128 : Shape := ⟨2, ![1, 128]⟩
abbrev S1x40x128 : Shape := ⟨3, ![1, 40, 128]⟩
abbrev S88x128 : Shape := ⟨2, ![88, 128]⟩
abbrev S1x128x128 : Shape := ⟨3, ![1, 128, 128]⟩
abbrev S32x128 : Shape := ⟨2, ![32, 128]⟩
abbrev S1x32x128 : Shape := ⟨3, ![1, 32, 128]⟩
abbrev S1x8x128 : Shape := ⟨3, ![1, 8, 128]⟩
abbrev S8x128 : Shape := ⟨2, ![8, 128]⟩
abbrev S1x32x1 : Shape := ⟨3, ![1, 32, 1]⟩
abbrev S32x1 : Shape := ⟨2, ![32, 1]⟩
abbrev S32 : Shape := ⟨1, ![32]⟩

abbrev nBuf : Space → Nat
  | .hbm => 14
  | .vmem => 27
  | .smem => 0
  | _ => 0

abbrev bufTy : (tb : Table) → Fin (tcTables nBuf tb) → BufTy
  | .hbm, ⟨0, _⟩ => ⟨S4x8192x5120, .fp8e5m2⟩
  | .hbm, ⟨1, _⟩ => ⟨S4x8192x40, .f32⟩
  | .hbm, ⟨2, _⟩ => ⟨S8192x5120, .f32⟩
  | .hbm, ⟨3, _⟩ => ⟨S8192x5120, .f32⟩
  | .hbm, ⟨4, _⟩ => ⟨S8192x5120, .f32⟩
  | .hbm, ⟨5, _⟩ => ⟨S8192, .i32⟩
  | .hbm, ⟨6, _⟩ => ⟨S4x40x8192, .f32⟩
  | .hbm, ⟨7, _⟩ => ⟨S64x1x128, .i32⟩
  | .hbm, ⟨8, _⟩ => ⟨S8192x5120, .f32⟩
  | .hbm, ⟨9, _⟩ => ⟨S8192x5120, .f32⟩
  | .hbm, ⟨10, _⟩ => ⟨S8192x5120, .f32⟩
  | .hbm, ⟨11, _⟩ => ⟨S8192x5120, .f32⟩
  | .hbm, ⟨12, _⟩ => ⟨S8192x5120, .fp8e4m3⟩
  | .hbm, ⟨13, _⟩ => ⟨S40x8192, .f32⟩
  | .local _ .vmem, ⟨0, _⟩ => ⟨S4x128x5120, .fp8e5m2⟩
  | .local _ .vmem, ⟨1, _⟩ => ⟨S4x128x5120, .fp8e5m2⟩
  | .local _ .vmem, ⟨2, _⟩ => ⟨S4x40x128, .f32⟩
  | .local _ .vmem, ⟨3, _⟩ => ⟨S4x40x128, .f32⟩
  | .local _ .vmem, ⟨4, _⟩ => ⟨S1x1x128, .i32⟩
  | .local _ .vmem, ⟨5, _⟩ => ⟨S1x1x128, .i32⟩
  | .local _ .vmem, ⟨6, _⟩ => ⟨S128x5120, .f32⟩
  | .local _ .vmem, ⟨7, _⟩ => ⟨S128x5120, .f32⟩
  | .local _ .vmem, ⟨8, _⟩ => ⟨S128x5120, .f32⟩
  | .local _ .vmem, ⟨9, _⟩ => ⟨S128x5120, .f32⟩
  | .local _ .vmem, ⟨10, _⟩ => ⟨S128x5120, .f32⟩
  | .local _ .vmem, ⟨11, _⟩ => ⟨S128x5120, .f32⟩
  | .local _ .vmem, ⟨12, _⟩ => ⟨S128x5120, .f32⟩
  | .local _ .vmem, ⟨13, _⟩ => ⟨S128x5120, .f32⟩
  | .local _ .vmem, ⟨14, _⟩ => ⟨S128x5120, .f32⟩
  | .local _ .vmem, ⟨15, _⟩ => ⟨S128x5120, .f32⟩
  | .local _ .vmem, ⟨16, _⟩ => ⟨S128x5120, .f32⟩
  | .local _ .vmem, ⟨17, _⟩ => ⟨S128x5120, .f32⟩
  | .local _ .vmem, ⟨18, _⟩ => ⟨S128x5120, .f32⟩
  | .local _ .vmem, ⟨19, _⟩ => ⟨S128x5120, .f32⟩
  | .local _ .vmem, ⟨20, _⟩ => ⟨S128x5120, .fp8e4m3⟩
  | .local _ .vmem, ⟨21, _⟩ => ⟨S128x5120, .fp8e4m3⟩
  | .local _ .vmem, ⟨22, _⟩ => ⟨S40x128, .f32⟩
  | .local _ .vmem, ⟨23, _⟩ => ⟨S40x128, .f32⟩
  | .local _ .vmem, ⟨24, _⟩ => ⟨S4x128x128, .f32⟩
  | .local _ .vmem, ⟨25, _⟩ => ⟨S4x32x128, .i32⟩
  | .local _ .vmem, ⟨26, _⟩ => ⟨S128x128, .f32⟩
  | _, _ => ⟨S4x8192x5120, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_50 : BitVec 32 := 0#32
  let c4_i32 : BitVec 32 := 4#32
  let v93 : BitVec 32 := Scalar.addi c0_i32_50 c4_i32
  let c1_i32_51 : BitVec 32 := 1#32
  ⟨c0_i32_50, v93, c1_i32_51⟩
def k0_mult1 (k0_t1 : Fin k0_t1_loop.trips) : BitVec 32 :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  v100
def k0_mult2 (k0_t1 : Fin k0_t1_loop.trips) : BitVec 32 :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c8_i32 : BitVec 32 := 8#32
  let v102 : BitVec 32 := Scalar.muli v99 c8_i32
  v102
def k0_off1 (k0_t1 : Fin k0_t1_loop.trips) : Fin 3 → Nat :=
  let c0_60 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c8_i32 : BitVec 32 := 8#32
  let v102 : BitVec 32 := Scalar.muli v99 c8_i32
  let v103 : BitVec 32 := v102
  let v105 : Index := Scalar.indexCast v103
  let c0_61 : Index := 0#32
  ![0, v105.toNat, 0]
def k0_off2 (k0_t1 : Fin k0_t1_loop.trips) : Fin 3 → Nat :=
  let c0_62 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v111 : Index := Scalar.indexCast v101
  let c0_63 : Index := 0#32
  ![0, v111.toNat, 0]
def k0_off3 (k0_t1 : Fin k0_t1_loop.trips) : Fin 3 → Nat :=
  let c0_65 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v117 : Index := Scalar.indexCast v101
  let c0_66 : Index := 0#32
  ![0, v117.toNat, 0]
def k0_off4 (k0_t1 : Fin k0_t1_loop.trips) : Fin 3 → Nat :=
  let c1_67 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c8_i32 : BitVec 32 := 8#32
  let v102 : BitVec 32 := Scalar.muli v99 c8_i32
  let v103 : BitVec 32 := v102
  let v122 : Index := Scalar.indexCast v103
  let c0_68 : Index := 0#32
  ![1, v122.toNat, 0]
def k0_off5 (k0_t1 : Fin k0_t1_loop.trips) : Fin 3 → Nat :=
  let c1_70 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v128 : Index := Scalar.indexCast v101
  let c0_71 : Index := 0#32
  ![1, v128.toNat, 0]
def k0_off6 (k0_t1 : Fin k0_t1_loop.trips) : Fin 3 → Nat :=
  let c1_73 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v134 : Index := Scalar.indexCast v101
  let c0_74 : Index := 0#32
  ![1, v134.toNat, 0]
def k0_off7 (k0_t1 : Fin k0_t1_loop.trips) : Fin 3 → Nat :=
  let c2_75 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c8_i32 : BitVec 32 := 8#32
  let v102 : BitVec 32 := Scalar.muli v99 c8_i32
  let v103 : BitVec 32 := v102
  let v140 : Index := Scalar.indexCast v103
  let c0_76 : Index := 0#32
  ![2, v140.toNat, 0]
def k0_off8 (k0_t1 : Fin k0_t1_loop.trips) : Fin 3 → Nat :=
  let c2_78 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v146 : Index := Scalar.indexCast v101
  let c0_79 : Index := 0#32
  ![2, v146.toNat, 0]
def k0_off9 (k0_t1 : Fin k0_t1_loop.trips) : Fin 3 → Nat :=
  let c2_81 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v152 : Index := Scalar.indexCast v101
  let c0_82 : Index := 0#32
  ![2, v152.toNat, 0]
def k0_off10 (k0_t1 : Fin k0_t1_loop.trips) : Fin 3 → Nat :=
  let c3_83 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c8_i32 : BitVec 32 := 8#32
  let v102 : BitVec 32 := Scalar.muli v99 c8_i32
  let v103 : BitVec 32 := v102
  let v158 : Index := Scalar.indexCast v103
  let c0_84 : Index := 0#32
  ![3, v158.toNat, 0]
def k0_off11 (k0_t1 : Fin k0_t1_loop.trips) : Fin 3 → Nat :=
  let c3_86 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v164 : Index := Scalar.indexCast v101
  let c0_87 : Index := 0#32
  ![3, v164.toNat, 0]
def k0_off12 (k0_t1 : Fin k0_t1_loop.trips) : Fin 3 → Nat :=
  let c3_89 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v170 : Index := Scalar.indexCast v101
  let c0_90 : Index := 0#32
  ![3, v170.toNat, 0]
def k0_off13 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v176 : Index := Scalar.indexCast v101
  let c0_91 : Index := 0#32
  ![v176.toNat, 0]
def k0_off14 (k0_t1 : Fin k0_t1_loop.trips) : Fin 3 → Nat :=
  let c0_140 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v313 : Index := Scalar.indexCast v101
  let c128 : Index := 128#32
  ![0, v313.toNat, 128]
def k0_off15 (k0_t1 : Fin k0_t1_loop.trips) : Fin 3 → Nat :=
  let c0_142 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v319 : Index := Scalar.indexCast v101
  let c1_143 : Index := 1#32
  ![0, v319.toNat, 1]
def k0_off16 (k0_t1 : Fin k0_t1_loop.trips) : Fin 3 → Nat :=
  let c1_147 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v330 : Index := Scalar.indexCast v101
  let c128_148 : Index := 128#32
  ![1, v330.toNat, 128]
def k0_off17 (k0_t1 : Fin k0_t1_loop.trips) : Fin 3 → Nat :=
  let c1_150 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v336 : Index := Scalar.indexCast v101
  let c1_151 : Index := 1#32
  ![1, v336.toNat, 1]
def k0_off18 (k0_t1 : Fin k0_t1_loop.trips) : Fin 3 → Nat :=
  let c2_155 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v348 : Index := Scalar.indexCast v101
  let c128_156 : Index := 128#32
  ![2, v348.toNat, 128]
def k0_off19 (k0_t1 : Fin k0_t1_loop.trips) : Fin 3 → Nat :=
  let c2_158 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v354 : Index := Scalar.indexCast v101
  let c1_159 : Index := 1#32
  ![2, v354.toNat, 1]
def k0_off20 (k0_t1 : Fin k0_t1_loop.trips) : Fin 3 → Nat :=
  let c3_163 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v366 : Index := Scalar.indexCast v101
  let c128_164 : Index := 128#32
  ![3, v366.toNat, 128]
def k0_off21 (k0_t1 : Fin k0_t1_loop.trips) : Fin 3 → Nat :=
  let c3_166 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v372 : Index := Scalar.indexCast v101
  let c1_167 : Index := 1#32
  ![3, v372.toNat, 1]
def k0_off22 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v378 : Index := Scalar.indexCast v101
  let c128_168 : Index := 128#32
  ![v378.toNat, 128]
def k0_off23 (k0_t1 : Fin k0_t1_loop.trips) : Fin 3 → Nat :=
  let c0_217 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v515 : Index := Scalar.indexCast v101
  let c256 : Index := 256#32
  ![0, v515.toNat, 256]
def k0_off24 (k0_t1 : Fin k0_t1_loop.trips) : Fin 3 → Nat :=
  let c0_219 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v521 : Index := Scalar.indexCast v101
  let c2_220 : Index := 2#32
  ![0, v521.toNat, 2]
def k0_off25 (k0_t1 : Fin k0_t1_loop.trips) : Fin 3 → Nat :=
  let c1_224 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v532 : Index := Scalar.indexCast v101
  let c256_225 : Index := 256#32
  ![1, v532.toNat, 256]
def k0_off26 (k0_t1 : Fin k0_t1_loop.trips) : Fin 3 → Nat :=
  let c1_227 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v538 : Index := Scalar.indexCast v101
  let c2_228 : Index := 2#32
  ![1, v538.toNat, 2]
def k0_off27 (k0_t1 : Fin k0_t1_loop.trips) : Fin 3 → Nat :=
  let c2_232 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v550 : Index := Scalar.indexCast v101
  let c256_233 : Index := 256#32
  ![2, v550.toNat, 256]
def k0_off28 (k0_t1 : Fin k0_t1_loop.trips) : Fin 3 → Nat :=
  let c2_235 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v556 : Index := Scalar.indexCast v101
  let c2_236 : Index := 2#32
  ![2, v556.toNat, 2]
def k0_off29 (k0_t1 : Fin k0_t1_loop.trips) : Fin 3 → Nat :=
  let c3_240 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v568 : Index := Scalar.indexCast v101
  let c256_241 : Index := 256#32
  ![3, v568.toNat, 256]
def k0_off30 (k0_t1 : Fin k0_t1_loop.trips) : Fin 3 → Nat :=
  let c3_243 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v574 : Index := Scalar.indexCast v101
  let c2_244 : Index := 2#32
  ![3, v574.toNat, 2]
def k0_off31 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v580 : Index := Scalar.indexCast v101
  let c256_245 : Index := 256#32
  ![v580.toNat, 256]
def k0_off32 (k0_t1 : Fin k0_t1_loop.trips) : Fin 3 → Nat :=
  let c0_294 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v717 : Index := Scalar.indexCast v101
  let c384 : Index := 384#32
  ![0, v717.toNat, 384]
def k0_off33 (k0_t1 : Fin k0_t1_loop.trips) : Fin 3 → Nat :=
  let c0_296 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v723 : Index := Scalar.indexCast v101
  let c3_297 : Index := 3#32
  ![0, v723.toNat, 3]
def k0_off34 (k0_t1 : Fin k0_t1_loop.trips) : Fin 3 → Nat :=
  let c1_301 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v734 : Index := Scalar.indexCast v101
  let c384_302 : Index := 384#32
  ![1, v734.toNat, 384]
def k0_off35 (k0_t1 : Fin k0_t1_loop.trips) : Fin 3 → Nat :=
  let c1_304 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v740 : Index := Scalar.indexCast v101
  let c3_305 : Index := 3#32
  ![1, v740.toNat, 3]
def k0_off36 (k0_t1 : Fin k0_t1_loop.trips) : Fin 3 → Nat :=
  let c2_309 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v752 : Index := Scalar.indexCast v101
  let c384_310 : Index := 384#32
  ![2, v752.toNat, 384]
def k0_off37 (k0_t1 : Fin k0_t1_loop.trips) : Fin 3 → Nat :=
  let c2_312 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v758 : Index := Scalar.indexCast v101
  let c3_313 : Index := 3#32
  ![2, v758.toNat, 3]
def k0_off38 (k0_t1 : Fin k0_t1_loop.trips) : Fin 3 → Nat :=
  let c3_317 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v770 : Index := Scalar.indexCast v101
  let c384_318 : Index := 384#32
  ![3, v770.toNat, 384]
def k0_off39 (k0_t1 : Fin k0_t1_loop.trips) : Fin 3 → Nat :=
  let c3_320 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v776 : Index := Scalar.indexCast v101
  let c3_321 : Index := 3#32
  ![3, v776.toNat, 3]
def k0_off40 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v782 : Index := Scalar.indexCast v101
  let c384_322 : Index := 384#32
  ![v782.toNat, 384]
def k0_off41 (k0_t1 : Fin k0_t1_loop.trips) : Fin 3 → Nat :=
  let c0_371 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v919 : Index := Scalar.indexCast v101
  let c512 : Index := 512#32
  ![0, v919.toNat, 512]
def k0_off42 (k0_t1 : Fin k0_t1_loop.trips) : Fin 3 → Nat :=
  let c0_373 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v925 : Index := Scalar.indexCast v101
  let c4 : Index := 4#32
  ![0, v925.toNat, 4]
def k0_off43 (k0_t1 : Fin k0_t1_loop.trips) : Fin 3 → Nat :=
  let c1_377 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v936 : Index := Scalar.indexCast v101
  let c512_378 : Index := 512#32
  ![1, v936.toNat, 512]
def k0_off44 (k0_t1 : Fin k0_t1_loop.trips) : Fin 3 → Nat :=
  let c1_380 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v942 : Index := Scalar.indexCast v101
  let c4_381 : Index := 4#32
  ![1, v942.toNat, 4]
def k0_off45 (k0_t1 : Fin k0_t1_loop.trips) : Fin 3 → Nat :=
  let c2_385 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v954 : Index := Scalar.indexCast v101
  let c512_386 : Index := 512#32
  ![2, v954.toNat, 512]
def k0_off46 (k0_t1 : Fin k0_t1_loop.trips) : Fin 3 → Nat :=
  let c2_388 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v960 : Index := Scalar.indexCast v101
  let c4_389 : Index := 4#32
  ![2, v960.toNat, 4]
def k0_off47 (k0_t1 : Fin k0_t1_loop.trips) : Fin 3 → Nat :=
  let c3_393 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v972 : Index := Scalar.indexCast v101
  let c512_394 : Index := 512#32
  ![3, v972.toNat, 512]
def k0_off48 (k0_t1 : Fin k0_t1_loop.trips) : Fin 3 → Nat :=
  let c3_396 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v978 : Index := Scalar.indexCast v101
  let c4_397 : Index := 4#32
  ![3, v978.toNat, 4]
def k0_off49 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v984 : Index := Scalar.indexCast v101
  let c512_398 : Index := 512#32
  ![v984.toNat, 512]
def k0_off50 (k0_t1 : Fin k0_t1_loop.trips) : Fin 3 → Nat :=
  let c0_447 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1121 : Index := Scalar.indexCast v101
  let c640 : Index := 640#32
  ![0, v1121.toNat, 640]
def k0_off51 (k0_t1 : Fin k0_t1_loop.trips) : Fin 3 → Nat :=
  let c0_449 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1127 : Index := Scalar.indexCast v101
  let c5 : Index := 5#32
  ![0, v1127.toNat, 5]
def k0_off52 (k0_t1 : Fin k0_t1_loop.trips) : Fin 3 → Nat :=
  let c1_453 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1138 : Index := Scalar.indexCast v101
  let c640_454 : Index := 640#32
  ![1, v1138.toNat, 640]
def k0_off53 (k0_t1 : Fin k0_t1_loop.trips) : Fin 3 → Nat :=
  let c1_456 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1144 : Index := Scalar.indexCast v101
  let c5_457 : Index := 5#32
  ![1, v1144.toNat, 5]
def k0_off54 (k0_t1 : Fin k0_t1_loop.trips) : Fin 3 → Nat :=
  let c2_461 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1156 : Index := Scalar.indexCast v101
  let c640_462 : Index := 640#32
  ![2, v1156.toNat, 640]
def k0_off55 (k0_t1 : Fin k0_t1_loop.trips) : Fin 3 → Nat :=
  let c2_464 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1162 : Index := Scalar.indexCast v101
  let c5_465 : Index := 5#32
  ![2, v1162.toNat, 5]
def k0_off56 (k0_t1 : Fin k0_t1_loop.trips) : Fin 3 → Nat :=
  let c3_469 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1174 : Index := Scalar.indexCast v101
  let c640_470 : Index := 640#32
  ![3, v1174.toNat, 640]
def k0_off57 (k0_t1 : Fin k0_t1_loop.trips) : Fin 3 → Nat :=
  let c3_472 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1180 : Index := Scalar.indexCast v101
  let c5_473 : Index := 5#32
  ![3, v1180.toNat, 5]
def k0_off58 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1186 : Index := Scalar.indexCast v101
  let c640_474 : Index := 640#32
  ![v1186.toNat, 640]
def k0_off59 (k0_t1 : Fin k0_t1_loop.trips) : Fin 3 → Nat :=
  let c0_522 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1323 : Index := Scalar.indexCast v101
  let c768 : Index := 768#32
  ![0, v1323.toNat, 768]
def k0_off60 (k0_t1 : Fin k0_t1_loop.trips) : Fin 3 → Nat :=
  let c0_524 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1329 : Index := Scalar.indexCast v101
  let c6 : Index := 6#32
  ![0, v1329.toNat, 6]
def k0_off61 (k0_t1 : Fin k0_t1_loop.trips) : Fin 3 → Nat :=
  let c1_528 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1340 : Index := Scalar.indexCast v101
  let c768_529 : Index := 768#32
  ![1, v1340.toNat, 768]
def k0_off62 (k0_t1 : Fin k0_t1_loop.trips) : Fin 3 → Nat :=
  let c1_531 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1346 : Index := Scalar.indexCast v101
  let c6_532 : Index := 6#32
  ![1, v1346.toNat, 6]
def k0_off63 (k0_t1 : Fin k0_t1_loop.trips) : Fin 3 → Nat :=
  let c2_536 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1358 : Index := Scalar.indexCast v101
  let c768_537 : Index := 768#32
  ![2, v1358.toNat, 768]
def k0_off64 (k0_t1 : Fin k0_t1_loop.trips) : Fin 3 → Nat :=
  let c2_539 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1364 : Index := Scalar.indexCast v101
  let c6_540 : Index := 6#32
  ![2, v1364.toNat, 6]
def k0_off65 (k0_t1 : Fin k0_t1_loop.trips) : Fin 3 → Nat :=
  let c3_544 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1376 : Index := Scalar.indexCast v101
  let c768_545 : Index := 768#32
  ![3, v1376.toNat, 768]
def k0_off66 (k0_t1 : Fin k0_t1_loop.trips) : Fin 3 → Nat :=
  let c3_547 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1382 : Index := Scalar.indexCast v101
  let c6_548 : Index := 6#32
  ![3, v1382.toNat, 6]
def k0_off67 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1388 : Index := Scalar.indexCast v101
  let c768_549 : Index := 768#32
  ![v1388.toNat, 768]
def k0_off68 (k0_t1 : Fin k0_t1_loop.trips) : Fin 3 → Nat :=
  let c0_597 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1525 : Index := Scalar.indexCast v101
  let c896 : Index := 896#32
  ![0, v1525.toNat, 896]
def k0_off69 (k0_t1 : Fin k0_t1_loop.trips) : Fin 3 → Nat :=
  let c0_599 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1531 : Index := Scalar.indexCast v101
  let c7 : Index := 7#32
  ![0, v1531.toNat, 7]
def k0_off70 (k0_t1 : Fin k0_t1_loop.trips) : Fin 3 → Nat :=
  let c1_603 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1542 : Index := Scalar.indexCast v101
  let c896_604 : Index := 896#32
  ![1, v1542.toNat, 896]
def k0_off71 (k0_t1 : Fin k0_t1_loop.trips) : Fin 3 → Nat :=
  let c1_606 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1548 : Index := Scalar.indexCast v101
  let c7_607 : Index := 7#32
  ![1, v1548.toNat, 7]
def k0_off72 (k0_t1 : Fin k0_t1_loop.trips) : Fin 3 → Nat :=
  let c2_611 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1560 : Index := Scalar.indexCast v101
  let c896_612 : Index := 896#32
  ![2, v1560.toNat, 896]
def k0_off73 (k0_t1 : Fin k0_t1_loop.trips) : Fin 3 → Nat :=
  let c2_614 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1566 : Index := Scalar.indexCast v101
  let c7_615 : Index := 7#32
  ![2, v1566.toNat, 7]
def k0_off74 (k0_t1 : Fin k0_t1_loop.trips) : Fin 3 → Nat :=
  let c3_619 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1578 : Index := Scalar.indexCast v101
  let c896_620 : Index := 896#32
  ![3, v1578.toNat, 896]
def k0_off75 (k0_t1 : Fin k0_t1_loop.trips) : Fin 3 → Nat :=
  let c3_622 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1584 : Index := Scalar.indexCast v101
  let c7_623 : Index := 7#32
  ![3, v1584.toNat, 7]
def k0_off76 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1590 : Index := Scalar.indexCast v101
  let c896_624 : Index := 896#32
  ![v1590.toNat, 896]
def k0_off77 (k0_t1 : Fin k0_t1_loop.trips) : Fin 3 → Nat :=
  let c0_672 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1727 : Index := Scalar.indexCast v101
  let c1024 : Index := 1024#32
  ![0, v1727.toNat, 1024]
def k0_off78 (k0_t1 : Fin k0_t1_loop.trips) : Fin 3 → Nat :=
  let c0_674 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1733 : Index := Scalar.indexCast v101
  let c8 : Index := 8#32
  ![0, v1733.toNat, 8]
def k0_off79 (k0_t1 : Fin k0_t1_loop.trips) : Fin 3 → Nat :=
  let c1_678 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1744 : Index := Scalar.indexCast v101
  let c1024_679 : Index := 1024#32
  ![1, v1744.toNat, 1024]
def k0_off80 (k0_t1 : Fin k0_t1_loop.trips) : Fin 3 → Nat :=
  let c1_681 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1750 : Index := Scalar.indexCast v101
  let c8_682 : Index := 8#32
  ![1, v1750.toNat, 8]
def k0_off81 (k0_t1 : Fin k0_t1_loop.trips) : Fin 3 → Nat :=
  let c2_686 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1762 : Index := Scalar.indexCast v101
  let c1024_687 : Index := 1024#32
  ![2, v1762.toNat, 1024]
def k0_off82 (k0_t1 : Fin k0_t1_loop.trips) : Fin 3 → Nat :=
  let c2_689 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1768 : Index := Scalar.indexCast v101
  let c8_690 : Index := 8#32
  ![2, v1768.toNat, 8]
def k0_off83 (k0_t1 : Fin k0_t1_loop.trips) : Fin 3 → Nat :=
  let c3_694 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1780 : Index := Scalar.indexCast v101
  let c1024_695 : Index := 1024#32
  ![3, v1780.toNat, 1024]
def k0_off84 (k0_t1 : Fin k0_t1_loop.trips) : Fin 3 → Nat :=
  let c3_697 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1786 : Index := Scalar.indexCast v101
  let c8_698 : Index := 8#32
  ![3, v1786.toNat, 8]
def k0_off85 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1792 : Index := Scalar.indexCast v101
  let c1024_699 : Index := 1024#32
  ![v1792.toNat, 1024]
def k0_off86 (k0_t1 : Fin k0_t1_loop.trips) : Fin 3 → Nat :=
  let c0_748 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1929 : Index := Scalar.indexCast v101
  let c1152 : Index := 1152#32
  ![0, v1929.toNat, 1152]
def k0_off87 (k0_t1 : Fin k0_t1_loop.trips) : Fin 3 → Nat :=
  let c0_750 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1935 : Index := Scalar.indexCast v101
  let c9 : Index := 9#32
  ![0, v1935.toNat, 9]
def k0_off88 (k0_t1 : Fin k0_t1_loop.trips) : Fin 3 → Nat :=
  let c1_754 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1946 : Index := Scalar.indexCast v101
  let c1152_755 : Index := 1152#32
  ![1, v1946.toNat, 1152]
def k0_off89 (k0_t1 : Fin k0_t1_loop.trips) : Fin 3 → Nat :=
  let c1_757 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1952 : Index := Scalar.indexCast v101
  let c9_758 : Index := 9#32
  ![1, v1952.toNat, 9]
def k0_off90 (k0_t1 : Fin k0_t1_loop.trips) : Fin 3 → Nat :=
  let c2_762 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1964 : Index := Scalar.indexCast v101
  let c1152_763 : Index := 1152#32
  ![2, v1964.toNat, 1152]
def k0_off91 (k0_t1 : Fin k0_t1_loop.trips) : Fin 3 → Nat :=
  let c2_765 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1970 : Index := Scalar.indexCast v101
  let c9_766 : Index := 9#32
  ![2, v1970.toNat, 9]
def k0_off92 (k0_t1 : Fin k0_t1_loop.trips) : Fin 3 → Nat :=
  let c3_770 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1982 : Index := Scalar.indexCast v101
  let c1152_771 : Index := 1152#32
  ![3, v1982.toNat, 1152]
def k0_off93 (k0_t1 : Fin k0_t1_loop.trips) : Fin 3 → Nat :=
  let c3_773 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1988 : Index := Scalar.indexCast v101
  let c9_774 : Index := 9#32
  ![3, v1988.toNat, 9]
def k0_off94 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v1994 : Index := Scalar.indexCast v101
  let c1152_775 : Index := 1152#32
  ![v1994.toNat, 1152]
def k0_off95 (k0_t1 : Fin k0_t1_loop.trips) : Fin 3 → Nat :=
  let c0_823 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2131 : Index := Scalar.indexCast v101
  let c1280 : Index := 1280#32
  ![0, v2131.toNat, 1280]
def k0_off96 (k0_t1 : Fin k0_t1_loop.trips) : Fin 3 → Nat :=
  let c0_825 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2137 : Index := Scalar.indexCast v101
  let c10 : Index := 10#32
  ![0, v2137.toNat, 10]
def k0_off97 (k0_t1 : Fin k0_t1_loop.trips) : Fin 3 → Nat :=
  let c1_829 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2148 : Index := Scalar.indexCast v101
  let c1280_830 : Index := 1280#32
  ![1, v2148.toNat, 1280]
def k0_off98 (k0_t1 : Fin k0_t1_loop.trips) : Fin 3 → Nat :=
  let c1_832 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2154 : Index := Scalar.indexCast v101
  let c10_833 : Index := 10#32
  ![1, v2154.toNat, 10]
def k0_off99 (k0_t1 : Fin k0_t1_loop.trips) : Fin 3 → Nat :=
  let c2_837 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2166 : Index := Scalar.indexCast v101
  let c1280_838 : Index := 1280#32
  ![2, v2166.toNat, 1280]
def k0_off100 (k0_t1 : Fin k0_t1_loop.trips) : Fin 3 → Nat :=
  let c2_840 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2172 : Index := Scalar.indexCast v101
  let c10_841 : Index := 10#32
  ![2, v2172.toNat, 10]
def k0_off101 (k0_t1 : Fin k0_t1_loop.trips) : Fin 3 → Nat :=
  let c3_845 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2184 : Index := Scalar.indexCast v101
  let c1280_846 : Index := 1280#32
  ![3, v2184.toNat, 1280]
def k0_off102 (k0_t1 : Fin k0_t1_loop.trips) : Fin 3 → Nat :=
  let c3_848 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2190 : Index := Scalar.indexCast v101
  let c10_849 : Index := 10#32
  ![3, v2190.toNat, 10]
def k0_off103 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2196 : Index := Scalar.indexCast v101
  let c1280_850 : Index := 1280#32
  ![v2196.toNat, 1280]
def k0_off104 (k0_t1 : Fin k0_t1_loop.trips) : Fin 3 → Nat :=
  let c0_898 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2333 : Index := Scalar.indexCast v101
  let c1408 : Index := 1408#32
  ![0, v2333.toNat, 1408]
def k0_off105 (k0_t1 : Fin k0_t1_loop.trips) : Fin 3 → Nat :=
  let c0_900 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2339 : Index := Scalar.indexCast v101
  let c11 : Index := 11#32
  ![0, v2339.toNat, 11]
def k0_off106 (k0_t1 : Fin k0_t1_loop.trips) : Fin 3 → Nat :=
  let c1_904 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2350 : Index := Scalar.indexCast v101
  let c1408_905 : Index := 1408#32
  ![1, v2350.toNat, 1408]
def k0_off107 (k0_t1 : Fin k0_t1_loop.trips) : Fin 3 → Nat :=
  let c1_907 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2356 : Index := Scalar.indexCast v101
  let c11_908 : Index := 11#32
  ![1, v2356.toNat, 11]
def k0_off108 (k0_t1 : Fin k0_t1_loop.trips) : Fin 3 → Nat :=
  let c2_912 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2368 : Index := Scalar.indexCast v101
  let c1408_913 : Index := 1408#32
  ![2, v2368.toNat, 1408]
def k0_off109 (k0_t1 : Fin k0_t1_loop.trips) : Fin 3 → Nat :=
  let c2_915 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2374 : Index := Scalar.indexCast v101
  let c11_916 : Index := 11#32
  ![2, v2374.toNat, 11]
def k0_off110 (k0_t1 : Fin k0_t1_loop.trips) : Fin 3 → Nat :=
  let c3_920 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2386 : Index := Scalar.indexCast v101
  let c1408_921 : Index := 1408#32
  ![3, v2386.toNat, 1408]
def k0_off111 (k0_t1 : Fin k0_t1_loop.trips) : Fin 3 → Nat :=
  let c3_923 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2392 : Index := Scalar.indexCast v101
  let c11_924 : Index := 11#32
  ![3, v2392.toNat, 11]
def k0_off112 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2398 : Index := Scalar.indexCast v101
  let c1408_925 : Index := 1408#32
  ![v2398.toNat, 1408]
def k0_off113 (k0_t1 : Fin k0_t1_loop.trips) : Fin 3 → Nat :=
  let c0_973 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2535 : Index := Scalar.indexCast v101
  let c1536 : Index := 1536#32
  ![0, v2535.toNat, 1536]
def k0_off114 (k0_t1 : Fin k0_t1_loop.trips) : Fin 3 → Nat :=
  let c0_975 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2541 : Index := Scalar.indexCast v101
  let c12 : Index := 12#32
  ![0, v2541.toNat, 12]
def k0_off115 (k0_t1 : Fin k0_t1_loop.trips) : Fin 3 → Nat :=
  let c1_979 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2552 : Index := Scalar.indexCast v101
  let c1536_980 : Index := 1536#32
  ![1, v2552.toNat, 1536]
def k0_off116 (k0_t1 : Fin k0_t1_loop.trips) : Fin 3 → Nat :=
  let c1_982 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2558 : Index := Scalar.indexCast v101
  let c12_983 : Index := 12#32
  ![1, v2558.toNat, 12]
def k0_off117 (k0_t1 : Fin k0_t1_loop.trips) : Fin 3 → Nat :=
  let c2_987 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2570 : Index := Scalar.indexCast v101
  let c1536_988 : Index := 1536#32
  ![2, v2570.toNat, 1536]
def k0_off118 (k0_t1 : Fin k0_t1_loop.trips) : Fin 3 → Nat :=
  let c2_990 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2576 : Index := Scalar.indexCast v101
  let c12_991 : Index := 12#32
  ![2, v2576.toNat, 12]
def k0_off119 (k0_t1 : Fin k0_t1_loop.trips) : Fin 3 → Nat :=
  let c3_995 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2588 : Index := Scalar.indexCast v101
  let c1536_996 : Index := 1536#32
  ![3, v2588.toNat, 1536]
def k0_off120 (k0_t1 : Fin k0_t1_loop.trips) : Fin 3 → Nat :=
  let c3_998 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2594 : Index := Scalar.indexCast v101
  let c12_999 : Index := 12#32
  ![3, v2594.toNat, 12]
def k0_off121 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2600 : Index := Scalar.indexCast v101
  let c1536_1000 : Index := 1536#32
  ![v2600.toNat, 1536]
def k0_off122 (k0_t1 : Fin k0_t1_loop.trips) : Fin 3 → Nat :=
  let c0_1048 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2737 : Index := Scalar.indexCast v101
  let c1664 : Index := 1664#32
  ![0, v2737.toNat, 1664]
def k0_off123 (k0_t1 : Fin k0_t1_loop.trips) : Fin 3 → Nat :=
  let c0_1050 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2743 : Index := Scalar.indexCast v101
  let c13 : Index := 13#32
  ![0, v2743.toNat, 13]
def k0_off124 (k0_t1 : Fin k0_t1_loop.trips) : Fin 3 → Nat :=
  let c1_1054 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2754 : Index := Scalar.indexCast v101
  let c1664_1055 : Index := 1664#32
  ![1, v2754.toNat, 1664]
def k0_off125 (k0_t1 : Fin k0_t1_loop.trips) : Fin 3 → Nat :=
  let c1_1057 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2760 : Index := Scalar.indexCast v101
  let c13_1058 : Index := 13#32
  ![1, v2760.toNat, 13]
def k0_off126 (k0_t1 : Fin k0_t1_loop.trips) : Fin 3 → Nat :=
  let c2_1062 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2772 : Index := Scalar.indexCast v101
  let c1664_1063 : Index := 1664#32
  ![2, v2772.toNat, 1664]
def k0_off127 (k0_t1 : Fin k0_t1_loop.trips) : Fin 3 → Nat :=
  let c2_1065 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2778 : Index := Scalar.indexCast v101
  let c13_1066 : Index := 13#32
  ![2, v2778.toNat, 13]
def k0_off128 (k0_t1 : Fin k0_t1_loop.trips) : Fin 3 → Nat :=
  let c3_1070 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2790 : Index := Scalar.indexCast v101
  let c1664_1071 : Index := 1664#32
  ![3, v2790.toNat, 1664]
def k0_off129 (k0_t1 : Fin k0_t1_loop.trips) : Fin 3 → Nat :=
  let c3_1073 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2796 : Index := Scalar.indexCast v101
  let c13_1074 : Index := 13#32
  ![3, v2796.toNat, 13]
def k0_off130 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2802 : Index := Scalar.indexCast v101
  let c1664_1075 : Index := 1664#32
  ![v2802.toNat, 1664]
def k0_off131 (k0_t1 : Fin k0_t1_loop.trips) : Fin 3 → Nat :=
  let c0_1123 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2939 : Index := Scalar.indexCast v101
  let c1792 : Index := 1792#32
  ![0, v2939.toNat, 1792]
def k0_off132 (k0_t1 : Fin k0_t1_loop.trips) : Fin 3 → Nat :=
  let c0_1125 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2945 : Index := Scalar.indexCast v101
  let c14 : Index := 14#32
  ![0, v2945.toNat, 14]
def k0_off133 (k0_t1 : Fin k0_t1_loop.trips) : Fin 3 → Nat :=
  let c1_1129 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2956 : Index := Scalar.indexCast v101
  let c1792_1130 : Index := 1792#32
  ![1, v2956.toNat, 1792]
def k0_off134 (k0_t1 : Fin k0_t1_loop.trips) : Fin 3 → Nat :=
  let c1_1132 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2962 : Index := Scalar.indexCast v101
  let c14_1133 : Index := 14#32
  ![1, v2962.toNat, 14]
def k0_off135 (k0_t1 : Fin k0_t1_loop.trips) : Fin 3 → Nat :=
  let c2_1137 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2974 : Index := Scalar.indexCast v101
  let c1792_1138 : Index := 1792#32
  ![2, v2974.toNat, 1792]
def k0_off136 (k0_t1 : Fin k0_t1_loop.trips) : Fin 3 → Nat :=
  let c2_1140 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2980 : Index := Scalar.indexCast v101
  let c14_1141 : Index := 14#32
  ![2, v2980.toNat, 14]
def k0_off137 (k0_t1 : Fin k0_t1_loop.trips) : Fin 3 → Nat :=
  let c3_1145 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2992 : Index := Scalar.indexCast v101
  let c1792_1146 : Index := 1792#32
  ![3, v2992.toNat, 1792]
def k0_off138 (k0_t1 : Fin k0_t1_loop.trips) : Fin 3 → Nat :=
  let c3_1148 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v2998 : Index := Scalar.indexCast v101
  let c14_1149 : Index := 14#32
  ![3, v2998.toNat, 14]
def k0_off139 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3004 : Index := Scalar.indexCast v101
  let c1792_1150 : Index := 1792#32
  ![v3004.toNat, 1792]
def k0_off140 (k0_t1 : Fin k0_t1_loop.trips) : Fin 3 → Nat :=
  let c0_1198 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3141 : Index := Scalar.indexCast v101
  let c1920 : Index := 1920#32
  ![0, v3141.toNat, 1920]
def k0_off141 (k0_t1 : Fin k0_t1_loop.trips) : Fin 3 → Nat :=
  let c0_1200 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3147 : Index := Scalar.indexCast v101
  let c15 : Index := 15#32
  ![0, v3147.toNat, 15]
def k0_off142 (k0_t1 : Fin k0_t1_loop.trips) : Fin 3 → Nat :=
  let c1_1204 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3158 : Index := Scalar.indexCast v101
  let c1920_1205 : Index := 1920#32
  ![1, v3158.toNat, 1920]
def k0_off143 (k0_t1 : Fin k0_t1_loop.trips) : Fin 3 → Nat :=
  let c1_1207 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3164 : Index := Scalar.indexCast v101
  let c15_1208 : Index := 15#32
  ![1, v3164.toNat, 15]
def k0_off144 (k0_t1 : Fin k0_t1_loop.trips) : Fin 3 → Nat :=
  let c2_1212 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3176 : Index := Scalar.indexCast v101
  let c1920_1213 : Index := 1920#32
  ![2, v3176.toNat, 1920]
def k0_off145 (k0_t1 : Fin k0_t1_loop.trips) : Fin 3 → Nat :=
  let c2_1215 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3182 : Index := Scalar.indexCast v101
  let c15_1216 : Index := 15#32
  ![2, v3182.toNat, 15]
def k0_off146 (k0_t1 : Fin k0_t1_loop.trips) : Fin 3 → Nat :=
  let c3_1220 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3194 : Index := Scalar.indexCast v101
  let c1920_1221 : Index := 1920#32
  ![3, v3194.toNat, 1920]
def k0_off147 (k0_t1 : Fin k0_t1_loop.trips) : Fin 3 → Nat :=
  let c3_1223 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3200 : Index := Scalar.indexCast v101
  let c15_1224 : Index := 15#32
  ![3, v3200.toNat, 15]
def k0_off148 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3206 : Index := Scalar.indexCast v101
  let c1920_1225 : Index := 1920#32
  ![v3206.toNat, 1920]
def k0_off149 (k0_t1 : Fin k0_t1_loop.trips) : Fin 3 → Nat :=
  let c0_1273 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3343 : Index := Scalar.indexCast v101
  let c2048 : Index := 2048#32
  ![0, v3343.toNat, 2048]
def k0_off150 (k0_t1 : Fin k0_t1_loop.trips) : Fin 3 → Nat :=
  let c0_1275 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3349 : Index := Scalar.indexCast v101
  let c16 : Index := 16#32
  ![0, v3349.toNat, 16]
def k0_off151 (k0_t1 : Fin k0_t1_loop.trips) : Fin 3 → Nat :=
  let c1_1279 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3360 : Index := Scalar.indexCast v101
  let c2048_1280 : Index := 2048#32
  ![1, v3360.toNat, 2048]
def k0_off152 (k0_t1 : Fin k0_t1_loop.trips) : Fin 3 → Nat :=
  let c1_1282 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3366 : Index := Scalar.indexCast v101
  let c16_1283 : Index := 16#32
  ![1, v3366.toNat, 16]
def k0_off153 (k0_t1 : Fin k0_t1_loop.trips) : Fin 3 → Nat :=
  let c2_1287 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3378 : Index := Scalar.indexCast v101
  let c2048_1288 : Index := 2048#32
  ![2, v3378.toNat, 2048]
def k0_off154 (k0_t1 : Fin k0_t1_loop.trips) : Fin 3 → Nat :=
  let c2_1290 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3384 : Index := Scalar.indexCast v101
  let c16_1291 : Index := 16#32
  ![2, v3384.toNat, 16]
def k0_off155 (k0_t1 : Fin k0_t1_loop.trips) : Fin 3 → Nat :=
  let c3_1295 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3396 : Index := Scalar.indexCast v101
  let c2048_1296 : Index := 2048#32
  ![3, v3396.toNat, 2048]
def k0_off156 (k0_t1 : Fin k0_t1_loop.trips) : Fin 3 → Nat :=
  let c3_1298 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3402 : Index := Scalar.indexCast v101
  let c16_1299 : Index := 16#32
  ![3, v3402.toNat, 16]
def k0_off157 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3408 : Index := Scalar.indexCast v101
  let c2048_1300 : Index := 2048#32
  ![v3408.toNat, 2048]
def k0_off158 (k0_t1 : Fin k0_t1_loop.trips) : Fin 3 → Nat :=
  let c0_1348 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3545 : Index := Scalar.indexCast v101
  let c2176 : Index := 2176#32
  ![0, v3545.toNat, 2176]
def k0_off159 (k0_t1 : Fin k0_t1_loop.trips) : Fin 3 → Nat :=
  let c0_1350 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3551 : Index := Scalar.indexCast v101
  let c17 : Index := 17#32
  ![0, v3551.toNat, 17]
def k0_off160 (k0_t1 : Fin k0_t1_loop.trips) : Fin 3 → Nat :=
  let c1_1354 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3562 : Index := Scalar.indexCast v101
  let c2176_1355 : Index := 2176#32
  ![1, v3562.toNat, 2176]
def k0_off161 (k0_t1 : Fin k0_t1_loop.trips) : Fin 3 → Nat :=
  let c1_1357 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3568 : Index := Scalar.indexCast v101
  let c17_1358 : Index := 17#32
  ![1, v3568.toNat, 17]
def k0_off162 (k0_t1 : Fin k0_t1_loop.trips) : Fin 3 → Nat :=
  let c2_1362 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3580 : Index := Scalar.indexCast v101
  let c2176_1363 : Index := 2176#32
  ![2, v3580.toNat, 2176]
def k0_off163 (k0_t1 : Fin k0_t1_loop.trips) : Fin 3 → Nat :=
  let c2_1365 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3586 : Index := Scalar.indexCast v101
  let c17_1366 : Index := 17#32
  ![2, v3586.toNat, 17]
def k0_off164 (k0_t1 : Fin k0_t1_loop.trips) : Fin 3 → Nat :=
  let c3_1370 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3598 : Index := Scalar.indexCast v101
  let c2176_1371 : Index := 2176#32
  ![3, v3598.toNat, 2176]
def k0_off165 (k0_t1 : Fin k0_t1_loop.trips) : Fin 3 → Nat :=
  let c3_1373 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3604 : Index := Scalar.indexCast v101
  let c17_1374 : Index := 17#32
  ![3, v3604.toNat, 17]
def k0_off166 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3610 : Index := Scalar.indexCast v101
  let c2176_1375 : Index := 2176#32
  ![v3610.toNat, 2176]
def k0_off167 (k0_t1 : Fin k0_t1_loop.trips) : Fin 3 → Nat :=
  let c0_1423 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3747 : Index := Scalar.indexCast v101
  let c2304 : Index := 2304#32
  ![0, v3747.toNat, 2304]
def k0_off168 (k0_t1 : Fin k0_t1_loop.trips) : Fin 3 → Nat :=
  let c0_1425 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3753 : Index := Scalar.indexCast v101
  let c18 : Index := 18#32
  ![0, v3753.toNat, 18]
def k0_off169 (k0_t1 : Fin k0_t1_loop.trips) : Fin 3 → Nat :=
  let c1_1429 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3764 : Index := Scalar.indexCast v101
  let c2304_1430 : Index := 2304#32
  ![1, v3764.toNat, 2304]
def k0_off170 (k0_t1 : Fin k0_t1_loop.trips) : Fin 3 → Nat :=
  let c1_1432 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3770 : Index := Scalar.indexCast v101
  let c18_1433 : Index := 18#32
  ![1, v3770.toNat, 18]
def k0_off171 (k0_t1 : Fin k0_t1_loop.trips) : Fin 3 → Nat :=
  let c2_1437 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3782 : Index := Scalar.indexCast v101
  let c2304_1438 : Index := 2304#32
  ![2, v3782.toNat, 2304]
def k0_off172 (k0_t1 : Fin k0_t1_loop.trips) : Fin 3 → Nat :=
  let c2_1440 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3788 : Index := Scalar.indexCast v101
  let c18_1441 : Index := 18#32
  ![2, v3788.toNat, 18]
def k0_off173 (k0_t1 : Fin k0_t1_loop.trips) : Fin 3 → Nat :=
  let c3_1445 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3800 : Index := Scalar.indexCast v101
  let c2304_1446 : Index := 2304#32
  ![3, v3800.toNat, 2304]
def k0_off174 (k0_t1 : Fin k0_t1_loop.trips) : Fin 3 → Nat :=
  let c3_1448 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3806 : Index := Scalar.indexCast v101
  let c18_1449 : Index := 18#32
  ![3, v3806.toNat, 18]
def k0_off175 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3812 : Index := Scalar.indexCast v101
  let c2304_1450 : Index := 2304#32
  ![v3812.toNat, 2304]
def k0_off176 (k0_t1 : Fin k0_t1_loop.trips) : Fin 3 → Nat :=
  let c0_1498 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3949 : Index := Scalar.indexCast v101
  let c2432 : Index := 2432#32
  ![0, v3949.toNat, 2432]
def k0_off177 (k0_t1 : Fin k0_t1_loop.trips) : Fin 3 → Nat :=
  let c0_1500 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3955 : Index := Scalar.indexCast v101
  let c19 : Index := 19#32
  ![0, v3955.toNat, 19]
def k0_off178 (k0_t1 : Fin k0_t1_loop.trips) : Fin 3 → Nat :=
  let c1_1504 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3966 : Index := Scalar.indexCast v101
  let c2432_1505 : Index := 2432#32
  ![1, v3966.toNat, 2432]
def k0_off179 (k0_t1 : Fin k0_t1_loop.trips) : Fin 3 → Nat :=
  let c1_1507 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3972 : Index := Scalar.indexCast v101
  let c19_1508 : Index := 19#32
  ![1, v3972.toNat, 19]
def k0_off180 (k0_t1 : Fin k0_t1_loop.trips) : Fin 3 → Nat :=
  let c2_1512 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3984 : Index := Scalar.indexCast v101
  let c2432_1513 : Index := 2432#32
  ![2, v3984.toNat, 2432]
def k0_off181 (k0_t1 : Fin k0_t1_loop.trips) : Fin 3 → Nat :=
  let c2_1515 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v3990 : Index := Scalar.indexCast v101
  let c19_1516 : Index := 19#32
  ![2, v3990.toNat, 19]
def k0_off182 (k0_t1 : Fin k0_t1_loop.trips) : Fin 3 → Nat :=
  let c3_1520 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4002 : Index := Scalar.indexCast v101
  let c2432_1521 : Index := 2432#32
  ![3, v4002.toNat, 2432]
def k0_off183 (k0_t1 : Fin k0_t1_loop.trips) : Fin 3 → Nat :=
  let c3_1523 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4008 : Index := Scalar.indexCast v101
  let c19_1524 : Index := 19#32
  ![3, v4008.toNat, 19]
def k0_off184 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4014 : Index := Scalar.indexCast v101
  let c2432_1525 : Index := 2432#32
  ![v4014.toNat, 2432]
def k0_off185 (k0_t1 : Fin k0_t1_loop.trips) : Fin 3 → Nat :=
  let c0_1573 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4151 : Index := Scalar.indexCast v101
  let c2560 : Index := 2560#32
  ![0, v4151.toNat, 2560]
def k0_off186 (k0_t1 : Fin k0_t1_loop.trips) : Fin 3 → Nat :=
  let c0_1575 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4157 : Index := Scalar.indexCast v101
  let c20 : Index := 20#32
  ![0, v4157.toNat, 20]
def k0_off187 (k0_t1 : Fin k0_t1_loop.trips) : Fin 3 → Nat :=
  let c1_1579 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4168 : Index := Scalar.indexCast v101
  let c2560_1580 : Index := 2560#32
  ![1, v4168.toNat, 2560]
def k0_off188 (k0_t1 : Fin k0_t1_loop.trips) : Fin 3 → Nat :=
  let c1_1582 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4174 : Index := Scalar.indexCast v101
  let c20_1583 : Index := 20#32
  ![1, v4174.toNat, 20]
def k0_off189 (k0_t1 : Fin k0_t1_loop.trips) : Fin 3 → Nat :=
  let c2_1587 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4186 : Index := Scalar.indexCast v101
  let c2560_1588 : Index := 2560#32
  ![2, v4186.toNat, 2560]
def k0_off190 (k0_t1 : Fin k0_t1_loop.trips) : Fin 3 → Nat :=
  let c2_1590 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4192 : Index := Scalar.indexCast v101
  let c20_1591 : Index := 20#32
  ![2, v4192.toNat, 20]
def k0_off191 (k0_t1 : Fin k0_t1_loop.trips) : Fin 3 → Nat :=
  let c3_1595 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4204 : Index := Scalar.indexCast v101
  let c2560_1596 : Index := 2560#32
  ![3, v4204.toNat, 2560]
def k0_off192 (k0_t1 : Fin k0_t1_loop.trips) : Fin 3 → Nat :=
  let c3_1598 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4210 : Index := Scalar.indexCast v101
  let c20_1599 : Index := 20#32
  ![3, v4210.toNat, 20]
def k0_off193 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4216 : Index := Scalar.indexCast v101
  let c2560_1600 : Index := 2560#32
  ![v4216.toNat, 2560]
def k0_off194 (k0_t1 : Fin k0_t1_loop.trips) : Fin 3 → Nat :=
  let c0_1648 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4353 : Index := Scalar.indexCast v101
  let c2688 : Index := 2688#32
  ![0, v4353.toNat, 2688]
def k0_off195 (k0_t1 : Fin k0_t1_loop.trips) : Fin 3 → Nat :=
  let c0_1650 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4359 : Index := Scalar.indexCast v101
  let c21 : Index := 21#32
  ![0, v4359.toNat, 21]
def k0_off196 (k0_t1 : Fin k0_t1_loop.trips) : Fin 3 → Nat :=
  let c1_1654 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4370 : Index := Scalar.indexCast v101
  let c2688_1655 : Index := 2688#32
  ![1, v4370.toNat, 2688]
def k0_off197 (k0_t1 : Fin k0_t1_loop.trips) : Fin 3 → Nat :=
  let c1_1657 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4376 : Index := Scalar.indexCast v101
  let c21_1658 : Index := 21#32
  ![1, v4376.toNat, 21]
def k0_off198 (k0_t1 : Fin k0_t1_loop.trips) : Fin 3 → Nat :=
  let c2_1662 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4388 : Index := Scalar.indexCast v101
  let c2688_1663 : Index := 2688#32
  ![2, v4388.toNat, 2688]
def k0_off199 (k0_t1 : Fin k0_t1_loop.trips) : Fin 3 → Nat :=
  let c2_1665 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4394 : Index := Scalar.indexCast v101
  let c21_1666 : Index := 21#32
  ![2, v4394.toNat, 21]
def k0_off200 (k0_t1 : Fin k0_t1_loop.trips) : Fin 3 → Nat :=
  let c3_1670 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4406 : Index := Scalar.indexCast v101
  let c2688_1671 : Index := 2688#32
  ![3, v4406.toNat, 2688]
def k0_off201 (k0_t1 : Fin k0_t1_loop.trips) : Fin 3 → Nat :=
  let c3_1673 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4412 : Index := Scalar.indexCast v101
  let c21_1674 : Index := 21#32
  ![3, v4412.toNat, 21]
def k0_off202 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4418 : Index := Scalar.indexCast v101
  let c2688_1675 : Index := 2688#32
  ![v4418.toNat, 2688]
def k0_off203 (k0_t1 : Fin k0_t1_loop.trips) : Fin 3 → Nat :=
  let c0_1723 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4555 : Index := Scalar.indexCast v101
  let c2816 : Index := 2816#32
  ![0, v4555.toNat, 2816]
def k0_off204 (k0_t1 : Fin k0_t1_loop.trips) : Fin 3 → Nat :=
  let c0_1725 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4561 : Index := Scalar.indexCast v101
  let c22 : Index := 22#32
  ![0, v4561.toNat, 22]
def k0_off205 (k0_t1 : Fin k0_t1_loop.trips) : Fin 3 → Nat :=
  let c1_1729 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4572 : Index := Scalar.indexCast v101
  let c2816_1730 : Index := 2816#32
  ![1, v4572.toNat, 2816]
def k0_off206 (k0_t1 : Fin k0_t1_loop.trips) : Fin 3 → Nat :=
  let c1_1732 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4578 : Index := Scalar.indexCast v101
  let c22_1733 : Index := 22#32
  ![1, v4578.toNat, 22]
def k0_off207 (k0_t1 : Fin k0_t1_loop.trips) : Fin 3 → Nat :=
  let c2_1737 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4590 : Index := Scalar.indexCast v101
  let c2816_1738 : Index := 2816#32
  ![2, v4590.toNat, 2816]
def k0_off208 (k0_t1 : Fin k0_t1_loop.trips) : Fin 3 → Nat :=
  let c2_1740 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4596 : Index := Scalar.indexCast v101
  let c22_1741 : Index := 22#32
  ![2, v4596.toNat, 22]
def k0_off209 (k0_t1 : Fin k0_t1_loop.trips) : Fin 3 → Nat :=
  let c3_1745 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4608 : Index := Scalar.indexCast v101
  let c2816_1746 : Index := 2816#32
  ![3, v4608.toNat, 2816]
def k0_off210 (k0_t1 : Fin k0_t1_loop.trips) : Fin 3 → Nat :=
  let c3_1748 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4614 : Index := Scalar.indexCast v101
  let c22_1749 : Index := 22#32
  ![3, v4614.toNat, 22]
def k0_off211 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4620 : Index := Scalar.indexCast v101
  let c2816_1750 : Index := 2816#32
  ![v4620.toNat, 2816]
def k0_off212 (k0_t1 : Fin k0_t1_loop.trips) : Fin 3 → Nat :=
  let c0_1798 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4757 : Index := Scalar.indexCast v101
  let c2944 : Index := 2944#32
  ![0, v4757.toNat, 2944]
def k0_off213 (k0_t1 : Fin k0_t1_loop.trips) : Fin 3 → Nat :=
  let c0_1800 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4763 : Index := Scalar.indexCast v101
  let c23 : Index := 23#32
  ![0, v4763.toNat, 23]
def k0_off214 (k0_t1 : Fin k0_t1_loop.trips) : Fin 3 → Nat :=
  let c1_1804 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4774 : Index := Scalar.indexCast v101
  let c2944_1805 : Index := 2944#32
  ![1, v4774.toNat, 2944]
def k0_off215 (k0_t1 : Fin k0_t1_loop.trips) : Fin 3 → Nat :=
  let c1_1807 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4780 : Index := Scalar.indexCast v101
  let c23_1808 : Index := 23#32
  ![1, v4780.toNat, 23]
def k0_off216 (k0_t1 : Fin k0_t1_loop.trips) : Fin 3 → Nat :=
  let c2_1812 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4792 : Index := Scalar.indexCast v101
  let c2944_1813 : Index := 2944#32
  ![2, v4792.toNat, 2944]
def k0_off217 (k0_t1 : Fin k0_t1_loop.trips) : Fin 3 → Nat :=
  let c2_1815 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4798 : Index := Scalar.indexCast v101
  let c23_1816 : Index := 23#32
  ![2, v4798.toNat, 23]
def k0_off218 (k0_t1 : Fin k0_t1_loop.trips) : Fin 3 → Nat :=
  let c3_1820 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4810 : Index := Scalar.indexCast v101
  let c2944_1821 : Index := 2944#32
  ![3, v4810.toNat, 2944]
def k0_off219 (k0_t1 : Fin k0_t1_loop.trips) : Fin 3 → Nat :=
  let c3_1823 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4816 : Index := Scalar.indexCast v101
  let c23_1824 : Index := 23#32
  ![3, v4816.toNat, 23]
def k0_off220 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4822 : Index := Scalar.indexCast v101
  let c2944_1825 : Index := 2944#32
  ![v4822.toNat, 2944]
def k0_off221 (k0_t1 : Fin k0_t1_loop.trips) : Fin 3 → Nat :=
  let c0_1873 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4959 : Index := Scalar.indexCast v101
  let c3072 : Index := 3072#32
  ![0, v4959.toNat, 3072]
def k0_off222 (k0_t1 : Fin k0_t1_loop.trips) : Fin 3 → Nat :=
  let c0_1875 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4965 : Index := Scalar.indexCast v101
  let c24 : Index := 24#32
  ![0, v4965.toNat, 24]
def k0_off223 (k0_t1 : Fin k0_t1_loop.trips) : Fin 3 → Nat :=
  let c1_1879 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4976 : Index := Scalar.indexCast v101
  let c3072_1880 : Index := 3072#32
  ![1, v4976.toNat, 3072]
def k0_off224 (k0_t1 : Fin k0_t1_loop.trips) : Fin 3 → Nat :=
  let c1_1882 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4982 : Index := Scalar.indexCast v101
  let c24_1883 : Index := 24#32
  ![1, v4982.toNat, 24]
def k0_off225 (k0_t1 : Fin k0_t1_loop.trips) : Fin 3 → Nat :=
  let c2_1887 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v4994 : Index := Scalar.indexCast v101
  let c3072_1888 : Index := 3072#32
  ![2, v4994.toNat, 3072]
def k0_off226 (k0_t1 : Fin k0_t1_loop.trips) : Fin 3 → Nat :=
  let c2_1890 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5000 : Index := Scalar.indexCast v101
  let c24_1891 : Index := 24#32
  ![2, v5000.toNat, 24]
def k0_off227 (k0_t1 : Fin k0_t1_loop.trips) : Fin 3 → Nat :=
  let c3_1895 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5012 : Index := Scalar.indexCast v101
  let c3072_1896 : Index := 3072#32
  ![3, v5012.toNat, 3072]
def k0_off228 (k0_t1 : Fin k0_t1_loop.trips) : Fin 3 → Nat :=
  let c3_1898 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5018 : Index := Scalar.indexCast v101
  let c24_1899 : Index := 24#32
  ![3, v5018.toNat, 24]
def k0_off229 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5024 : Index := Scalar.indexCast v101
  let c3072_1900 : Index := 3072#32
  ![v5024.toNat, 3072]
def k0_off230 (k0_t1 : Fin k0_t1_loop.trips) : Fin 3 → Nat :=
  let c0_1948 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5161 : Index := Scalar.indexCast v101
  let c3200 : Index := 3200#32
  ![0, v5161.toNat, 3200]
def k0_off231 (k0_t1 : Fin k0_t1_loop.trips) : Fin 3 → Nat :=
  let c0_1950 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5167 : Index := Scalar.indexCast v101
  let c25 : Index := 25#32
  ![0, v5167.toNat, 25]
def k0_off232 (k0_t1 : Fin k0_t1_loop.trips) : Fin 3 → Nat :=
  let c1_1954 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5178 : Index := Scalar.indexCast v101
  let c3200_1955 : Index := 3200#32
  ![1, v5178.toNat, 3200]
def k0_off233 (k0_t1 : Fin k0_t1_loop.trips) : Fin 3 → Nat :=
  let c1_1957 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5184 : Index := Scalar.indexCast v101
  let c25_1958 : Index := 25#32
  ![1, v5184.toNat, 25]
def k0_off234 (k0_t1 : Fin k0_t1_loop.trips) : Fin 3 → Nat :=
  let c2_1962 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5196 : Index := Scalar.indexCast v101
  let c3200_1963 : Index := 3200#32
  ![2, v5196.toNat, 3200]
def k0_off235 (k0_t1 : Fin k0_t1_loop.trips) : Fin 3 → Nat :=
  let c2_1965 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5202 : Index := Scalar.indexCast v101
  let c25_1966 : Index := 25#32
  ![2, v5202.toNat, 25]
def k0_off236 (k0_t1 : Fin k0_t1_loop.trips) : Fin 3 → Nat :=
  let c3_1970 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5214 : Index := Scalar.indexCast v101
  let c3200_1971 : Index := 3200#32
  ![3, v5214.toNat, 3200]
def k0_off237 (k0_t1 : Fin k0_t1_loop.trips) : Fin 3 → Nat :=
  let c3_1973 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5220 : Index := Scalar.indexCast v101
  let c25_1974 : Index := 25#32
  ![3, v5220.toNat, 25]
def k0_off238 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5226 : Index := Scalar.indexCast v101
  let c3200_1975 : Index := 3200#32
  ![v5226.toNat, 3200]
def k0_off239 (k0_t1 : Fin k0_t1_loop.trips) : Fin 3 → Nat :=
  let c0_2023 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5363 : Index := Scalar.indexCast v101
  let c3328 : Index := 3328#32
  ![0, v5363.toNat, 3328]
def k0_off240 (k0_t1 : Fin k0_t1_loop.trips) : Fin 3 → Nat :=
  let c0_2025 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5369 : Index := Scalar.indexCast v101
  let c26 : Index := 26#32
  ![0, v5369.toNat, 26]
def k0_off241 (k0_t1 : Fin k0_t1_loop.trips) : Fin 3 → Nat :=
  let c1_2029 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5380 : Index := Scalar.indexCast v101
  let c3328_2030 : Index := 3328#32
  ![1, v5380.toNat, 3328]
def k0_off242 (k0_t1 : Fin k0_t1_loop.trips) : Fin 3 → Nat :=
  let c1_2032 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5386 : Index := Scalar.indexCast v101
  let c26_2033 : Index := 26#32
  ![1, v5386.toNat, 26]
def k0_off243 (k0_t1 : Fin k0_t1_loop.trips) : Fin 3 → Nat :=
  let c2_2037 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5398 : Index := Scalar.indexCast v101
  let c3328_2038 : Index := 3328#32
  ![2, v5398.toNat, 3328]
def k0_off244 (k0_t1 : Fin k0_t1_loop.trips) : Fin 3 → Nat :=
  let c2_2040 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5404 : Index := Scalar.indexCast v101
  let c26_2041 : Index := 26#32
  ![2, v5404.toNat, 26]
def k0_off245 (k0_t1 : Fin k0_t1_loop.trips) : Fin 3 → Nat :=
  let c3_2045 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5416 : Index := Scalar.indexCast v101
  let c3328_2046 : Index := 3328#32
  ![3, v5416.toNat, 3328]
def k0_off246 (k0_t1 : Fin k0_t1_loop.trips) : Fin 3 → Nat :=
  let c3_2048 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5422 : Index := Scalar.indexCast v101
  let c26_2049 : Index := 26#32
  ![3, v5422.toNat, 26]
def k0_off247 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5428 : Index := Scalar.indexCast v101
  let c3328_2050 : Index := 3328#32
  ![v5428.toNat, 3328]
def k0_off248 (k0_t1 : Fin k0_t1_loop.trips) : Fin 3 → Nat :=
  let c0_2098 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5565 : Index := Scalar.indexCast v101
  let c3456 : Index := 3456#32
  ![0, v5565.toNat, 3456]
def k0_off249 (k0_t1 : Fin k0_t1_loop.trips) : Fin 3 → Nat :=
  let c0_2100 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5571 : Index := Scalar.indexCast v101
  let c27 : Index := 27#32
  ![0, v5571.toNat, 27]
def k0_off250 (k0_t1 : Fin k0_t1_loop.trips) : Fin 3 → Nat :=
  let c1_2104 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5582 : Index := Scalar.indexCast v101
  let c3456_2105 : Index := 3456#32
  ![1, v5582.toNat, 3456]
def k0_off251 (k0_t1 : Fin k0_t1_loop.trips) : Fin 3 → Nat :=
  let c1_2107 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5588 : Index := Scalar.indexCast v101
  let c27_2108 : Index := 27#32
  ![1, v5588.toNat, 27]
def k0_off252 (k0_t1 : Fin k0_t1_loop.trips) : Fin 3 → Nat :=
  let c2_2112 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5600 : Index := Scalar.indexCast v101
  let c3456_2113 : Index := 3456#32
  ![2, v5600.toNat, 3456]
def k0_off253 (k0_t1 : Fin k0_t1_loop.trips) : Fin 3 → Nat :=
  let c2_2115 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5606 : Index := Scalar.indexCast v101
  let c27_2116 : Index := 27#32
  ![2, v5606.toNat, 27]
def k0_off254 (k0_t1 : Fin k0_t1_loop.trips) : Fin 3 → Nat :=
  let c3_2120 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5618 : Index := Scalar.indexCast v101
  let c3456_2121 : Index := 3456#32
  ![3, v5618.toNat, 3456]
def k0_off255 (k0_t1 : Fin k0_t1_loop.trips) : Fin 3 → Nat :=
  let c3_2123 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5624 : Index := Scalar.indexCast v101
  let c27_2124 : Index := 27#32
  ![3, v5624.toNat, 27]
def k0_off256 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5630 : Index := Scalar.indexCast v101
  let c3456_2125 : Index := 3456#32
  ![v5630.toNat, 3456]
def k0_off257 (k0_t1 : Fin k0_t1_loop.trips) : Fin 3 → Nat :=
  let c0_2173 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5767 : Index := Scalar.indexCast v101
  let c3584 : Index := 3584#32
  ![0, v5767.toNat, 3584]
def k0_off258 (k0_t1 : Fin k0_t1_loop.trips) : Fin 3 → Nat :=
  let c0_2175 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5773 : Index := Scalar.indexCast v101
  let c28 : Index := 28#32
  ![0, v5773.toNat, 28]
def k0_off259 (k0_t1 : Fin k0_t1_loop.trips) : Fin 3 → Nat :=
  let c1_2179 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5784 : Index := Scalar.indexCast v101
  let c3584_2180 : Index := 3584#32
  ![1, v5784.toNat, 3584]
def k0_off260 (k0_t1 : Fin k0_t1_loop.trips) : Fin 3 → Nat :=
  let c1_2182 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5790 : Index := Scalar.indexCast v101
  let c28_2183 : Index := 28#32
  ![1, v5790.toNat, 28]
def k0_off261 (k0_t1 : Fin k0_t1_loop.trips) : Fin 3 → Nat :=
  let c2_2187 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5802 : Index := Scalar.indexCast v101
  let c3584_2188 : Index := 3584#32
  ![2, v5802.toNat, 3584]
def k0_off262 (k0_t1 : Fin k0_t1_loop.trips) : Fin 3 → Nat :=
  let c2_2190 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5808 : Index := Scalar.indexCast v101
  let c28_2191 : Index := 28#32
  ![2, v5808.toNat, 28]
def k0_off263 (k0_t1 : Fin k0_t1_loop.trips) : Fin 3 → Nat :=
  let c3_2195 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5820 : Index := Scalar.indexCast v101
  let c3584_2196 : Index := 3584#32
  ![3, v5820.toNat, 3584]
def k0_off264 (k0_t1 : Fin k0_t1_loop.trips) : Fin 3 → Nat :=
  let c3_2198 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5826 : Index := Scalar.indexCast v101
  let c28_2199 : Index := 28#32
  ![3, v5826.toNat, 28]
def k0_off265 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5832 : Index := Scalar.indexCast v101
  let c3584_2200 : Index := 3584#32
  ![v5832.toNat, 3584]
def k0_off266 (k0_t1 : Fin k0_t1_loop.trips) : Fin 3 → Nat :=
  let c0_2248 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5969 : Index := Scalar.indexCast v101
  let c3712 : Index := 3712#32
  ![0, v5969.toNat, 3712]
def k0_off267 (k0_t1 : Fin k0_t1_loop.trips) : Fin 3 → Nat :=
  let c0_2250 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5975 : Index := Scalar.indexCast v101
  let c29 : Index := 29#32
  ![0, v5975.toNat, 29]
def k0_off268 (k0_t1 : Fin k0_t1_loop.trips) : Fin 3 → Nat :=
  let c1_2254 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5986 : Index := Scalar.indexCast v101
  let c3712_2255 : Index := 3712#32
  ![1, v5986.toNat, 3712]
def k0_off269 (k0_t1 : Fin k0_t1_loop.trips) : Fin 3 → Nat :=
  let c1_2257 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v5992 : Index := Scalar.indexCast v101
  let c29_2258 : Index := 29#32
  ![1, v5992.toNat, 29]
def k0_off270 (k0_t1 : Fin k0_t1_loop.trips) : Fin 3 → Nat :=
  let c2_2262 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6004 : Index := Scalar.indexCast v101
  let c3712_2263 : Index := 3712#32
  ![2, v6004.toNat, 3712]
def k0_off271 (k0_t1 : Fin k0_t1_loop.trips) : Fin 3 → Nat :=
  let c2_2265 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6010 : Index := Scalar.indexCast v101
  let c29_2266 : Index := 29#32
  ![2, v6010.toNat, 29]
def k0_off272 (k0_t1 : Fin k0_t1_loop.trips) : Fin 3 → Nat :=
  let c3_2270 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6022 : Index := Scalar.indexCast v101
  let c3712_2271 : Index := 3712#32
  ![3, v6022.toNat, 3712]
def k0_off273 (k0_t1 : Fin k0_t1_loop.trips) : Fin 3 → Nat :=
  let c3_2273 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6028 : Index := Scalar.indexCast v101
  let c29_2274 : Index := 29#32
  ![3, v6028.toNat, 29]
def k0_off274 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6034 : Index := Scalar.indexCast v101
  let c3712_2275 : Index := 3712#32
  ![v6034.toNat, 3712]
def k0_off275 (k0_t1 : Fin k0_t1_loop.trips) : Fin 3 → Nat :=
  let c0_2323 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6171 : Index := Scalar.indexCast v101
  let c3840 : Index := 3840#32
  ![0, v6171.toNat, 3840]
def k0_off276 (k0_t1 : Fin k0_t1_loop.trips) : Fin 3 → Nat :=
  let c0_2325 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6177 : Index := Scalar.indexCast v101
  let c30 : Index := 30#32
  ![0, v6177.toNat, 30]
def k0_off277 (k0_t1 : Fin k0_t1_loop.trips) : Fin 3 → Nat :=
  let c1_2329 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6188 : Index := Scalar.indexCast v101
  let c3840_2330 : Index := 3840#32
  ![1, v6188.toNat, 3840]
def k0_off278 (k0_t1 : Fin k0_t1_loop.trips) : Fin 3 → Nat :=
  let c1_2332 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6194 : Index := Scalar.indexCast v101
  let c30_2333 : Index := 30#32
  ![1, v6194.toNat, 30]
def k0_off279 (k0_t1 : Fin k0_t1_loop.trips) : Fin 3 → Nat :=
  let c2_2337 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6206 : Index := Scalar.indexCast v101
  let c3840_2338 : Index := 3840#32
  ![2, v6206.toNat, 3840]
def k0_off280 (k0_t1 : Fin k0_t1_loop.trips) : Fin 3 → Nat :=
  let c2_2340 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6212 : Index := Scalar.indexCast v101
  let c30_2341 : Index := 30#32
  ![2, v6212.toNat, 30]
def k0_off281 (k0_t1 : Fin k0_t1_loop.trips) : Fin 3 → Nat :=
  let c3_2345 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6224 : Index := Scalar.indexCast v101
  let c3840_2346 : Index := 3840#32
  ![3, v6224.toNat, 3840]
def k0_off282 (k0_t1 : Fin k0_t1_loop.trips) : Fin 3 → Nat :=
  let c3_2348 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6230 : Index := Scalar.indexCast v101
  let c30_2349 : Index := 30#32
  ![3, v6230.toNat, 30]
def k0_off283 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6236 : Index := Scalar.indexCast v101
  let c3840_2350 : Index := 3840#32
  ![v6236.toNat, 3840]
def k0_off284 (k0_t1 : Fin k0_t1_loop.trips) : Fin 3 → Nat :=
  let c0_2398 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6373 : Index := Scalar.indexCast v101
  let c3968 : Index := 3968#32
  ![0, v6373.toNat, 3968]
def k0_off285 (k0_t1 : Fin k0_t1_loop.trips) : Fin 3 → Nat :=
  let c0_2400 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6379 : Index := Scalar.indexCast v101
  let c31 : Index := 31#32
  ![0, v6379.toNat, 31]
def k0_off286 (k0_t1 : Fin k0_t1_loop.trips) : Fin 3 → Nat :=
  let c1_2404 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6390 : Index := Scalar.indexCast v101
  let c3968_2405 : Index := 3968#32
  ![1, v6390.toNat, 3968]
def k0_off287 (k0_t1 : Fin k0_t1_loop.trips) : Fin 3 → Nat :=
  let c1_2407 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6396 : Index := Scalar.indexCast v101
  let c31_2408 : Index := 31#32
  ![1, v6396.toNat, 31]
def k0_off288 (k0_t1 : Fin k0_t1_loop.trips) : Fin 3 → Nat :=
  let c2_2412 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6408 : Index := Scalar.indexCast v101
  let c3968_2413 : Index := 3968#32
  ![2, v6408.toNat, 3968]
def k0_off289 (k0_t1 : Fin k0_t1_loop.trips) : Fin 3 → Nat :=
  let c2_2415 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6414 : Index := Scalar.indexCast v101
  let c31_2416 : Index := 31#32
  ![2, v6414.toNat, 31]
def k0_off290 (k0_t1 : Fin k0_t1_loop.trips) : Fin 3 → Nat :=
  let c3_2420 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6426 : Index := Scalar.indexCast v101
  let c3968_2421 : Index := 3968#32
  ![3, v6426.toNat, 3968]
def k0_off291 (k0_t1 : Fin k0_t1_loop.trips) : Fin 3 → Nat :=
  let c3_2423 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6432 : Index := Scalar.indexCast v101
  let c31_2424 : Index := 31#32
  ![3, v6432.toNat, 31]
def k0_off292 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6438 : Index := Scalar.indexCast v101
  let c3968_2425 : Index := 3968#32
  ![v6438.toNat, 3968]
def k0_off293 (k0_t1 : Fin k0_t1_loop.trips) : Fin 3 → Nat :=
  let c0_2473 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6575 : Index := Scalar.indexCast v101
  let c4096 : Index := 4096#32
  ![0, v6575.toNat, 4096]
def k0_off294 (k0_t1 : Fin k0_t1_loop.trips) : Fin 3 → Nat :=
  let c0_2475 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6581 : Index := Scalar.indexCast v101
  let c32 : Index := 32#32
  ![0, v6581.toNat, 32]
def k0_off295 (k0_t1 : Fin k0_t1_loop.trips) : Fin 3 → Nat :=
  let c1_2479 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6592 : Index := Scalar.indexCast v101
  let c4096_2480 : Index := 4096#32
  ![1, v6592.toNat, 4096]
def k0_off296 (k0_t1 : Fin k0_t1_loop.trips) : Fin 3 → Nat :=
  let c1_2482 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6598 : Index := Scalar.indexCast v101
  let c32_2483 : Index := 32#32
  ![1, v6598.toNat, 32]
def k0_off297 (k0_t1 : Fin k0_t1_loop.trips) : Fin 3 → Nat :=
  let c2_2487 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6610 : Index := Scalar.indexCast v101
  let c4096_2488 : Index := 4096#32
  ![2, v6610.toNat, 4096]
def k0_off298 (k0_t1 : Fin k0_t1_loop.trips) : Fin 3 → Nat :=
  let c2_2490 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6616 : Index := Scalar.indexCast v101
  let c32_2491 : Index := 32#32
  ![2, v6616.toNat, 32]
def k0_off299 (k0_t1 : Fin k0_t1_loop.trips) : Fin 3 → Nat :=
  let c3_2495 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6628 : Index := Scalar.indexCast v101
  let c4096_2496 : Index := 4096#32
  ![3, v6628.toNat, 4096]
def k0_off300 (k0_t1 : Fin k0_t1_loop.trips) : Fin 3 → Nat :=
  let c3_2498 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6634 : Index := Scalar.indexCast v101
  let c32_2499 : Index := 32#32
  ![3, v6634.toNat, 32]
def k0_off301 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6640 : Index := Scalar.indexCast v101
  let c4096_2500 : Index := 4096#32
  ![v6640.toNat, 4096]
def k0_off302 (k0_t1 : Fin k0_t1_loop.trips) : Fin 3 → Nat :=
  let c0_2549 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6777 : Index := Scalar.indexCast v101
  let c4224 : Index := 4224#32
  ![0, v6777.toNat, 4224]
def k0_off303 (k0_t1 : Fin k0_t1_loop.trips) : Fin 3 → Nat :=
  let c0_2551 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6783 : Index := Scalar.indexCast v101
  let c33 : Index := 33#32
  ![0, v6783.toNat, 33]
def k0_off304 (k0_t1 : Fin k0_t1_loop.trips) : Fin 3 → Nat :=
  let c1_2555 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6794 : Index := Scalar.indexCast v101
  let c4224_2556 : Index := 4224#32
  ![1, v6794.toNat, 4224]
def k0_off305 (k0_t1 : Fin k0_t1_loop.trips) : Fin 3 → Nat :=
  let c1_2558 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6800 : Index := Scalar.indexCast v101
  let c33_2559 : Index := 33#32
  ![1, v6800.toNat, 33]
def k0_off306 (k0_t1 : Fin k0_t1_loop.trips) : Fin 3 → Nat :=
  let c2_2563 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6812 : Index := Scalar.indexCast v101
  let c4224_2564 : Index := 4224#32
  ![2, v6812.toNat, 4224]
def k0_off307 (k0_t1 : Fin k0_t1_loop.trips) : Fin 3 → Nat :=
  let c2_2566 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6818 : Index := Scalar.indexCast v101
  let c33_2567 : Index := 33#32
  ![2, v6818.toNat, 33]
def k0_off308 (k0_t1 : Fin k0_t1_loop.trips) : Fin 3 → Nat :=
  let c3_2571 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6830 : Index := Scalar.indexCast v101
  let c4224_2572 : Index := 4224#32
  ![3, v6830.toNat, 4224]
def k0_off309 (k0_t1 : Fin k0_t1_loop.trips) : Fin 3 → Nat :=
  let c3_2574 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6836 : Index := Scalar.indexCast v101
  let c33_2575 : Index := 33#32
  ![3, v6836.toNat, 33]
def k0_off310 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6842 : Index := Scalar.indexCast v101
  let c4224_2576 : Index := 4224#32
  ![v6842.toNat, 4224]
def k0_off311 (k0_t1 : Fin k0_t1_loop.trips) : Fin 3 → Nat :=
  let c0_2624 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6979 : Index := Scalar.indexCast v101
  let c4352 : Index := 4352#32
  ![0, v6979.toNat, 4352]
def k0_off312 (k0_t1 : Fin k0_t1_loop.trips) : Fin 3 → Nat :=
  let c0_2626 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6985 : Index := Scalar.indexCast v101
  let c34 : Index := 34#32
  ![0, v6985.toNat, 34]
def k0_off313 (k0_t1 : Fin k0_t1_loop.trips) : Fin 3 → Nat :=
  let c1_2630 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v6996 : Index := Scalar.indexCast v101
  let c4352_2631 : Index := 4352#32
  ![1, v6996.toNat, 4352]
def k0_off314 (k0_t1 : Fin k0_t1_loop.trips) : Fin 3 → Nat :=
  let c1_2633 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7002 : Index := Scalar.indexCast v101
  let c34_2634 : Index := 34#32
  ![1, v7002.toNat, 34]
def k0_off315 (k0_t1 : Fin k0_t1_loop.trips) : Fin 3 → Nat :=
  let c2_2638 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7014 : Index := Scalar.indexCast v101
  let c4352_2639 : Index := 4352#32
  ![2, v7014.toNat, 4352]
def k0_off316 (k0_t1 : Fin k0_t1_loop.trips) : Fin 3 → Nat :=
  let c2_2641 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7020 : Index := Scalar.indexCast v101
  let c34_2642 : Index := 34#32
  ![2, v7020.toNat, 34]
def k0_off317 (k0_t1 : Fin k0_t1_loop.trips) : Fin 3 → Nat :=
  let c3_2646 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7032 : Index := Scalar.indexCast v101
  let c4352_2647 : Index := 4352#32
  ![3, v7032.toNat, 4352]
def k0_off318 (k0_t1 : Fin k0_t1_loop.trips) : Fin 3 → Nat :=
  let c3_2649 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7038 : Index := Scalar.indexCast v101
  let c34_2650 : Index := 34#32
  ![3, v7038.toNat, 34]
def k0_off319 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7044 : Index := Scalar.indexCast v101
  let c4352_2651 : Index := 4352#32
  ![v7044.toNat, 4352]
def k0_off320 (k0_t1 : Fin k0_t1_loop.trips) : Fin 3 → Nat :=
  let c0_2699 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7181 : Index := Scalar.indexCast v101
  let c4480 : Index := 4480#32
  ![0, v7181.toNat, 4480]
def k0_off321 (k0_t1 : Fin k0_t1_loop.trips) : Fin 3 → Nat :=
  let c0_2701 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7187 : Index := Scalar.indexCast v101
  let c35 : Index := 35#32
  ![0, v7187.toNat, 35]
def k0_off322 (k0_t1 : Fin k0_t1_loop.trips) : Fin 3 → Nat :=
  let c1_2705 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7198 : Index := Scalar.indexCast v101
  let c4480_2706 : Index := 4480#32
  ![1, v7198.toNat, 4480]
def k0_off323 (k0_t1 : Fin k0_t1_loop.trips) : Fin 3 → Nat :=
  let c1_2708 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7204 : Index := Scalar.indexCast v101
  let c35_2709 : Index := 35#32
  ![1, v7204.toNat, 35]
def k0_off324 (k0_t1 : Fin k0_t1_loop.trips) : Fin 3 → Nat :=
  let c2_2713 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7216 : Index := Scalar.indexCast v101
  let c4480_2714 : Index := 4480#32
  ![2, v7216.toNat, 4480]
def k0_off325 (k0_t1 : Fin k0_t1_loop.trips) : Fin 3 → Nat :=
  let c2_2716 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7222 : Index := Scalar.indexCast v101
  let c35_2717 : Index := 35#32
  ![2, v7222.toNat, 35]
def k0_off326 (k0_t1 : Fin k0_t1_loop.trips) : Fin 3 → Nat :=
  let c3_2721 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7234 : Index := Scalar.indexCast v101
  let c4480_2722 : Index := 4480#32
  ![3, v7234.toNat, 4480]
def k0_off327 (k0_t1 : Fin k0_t1_loop.trips) : Fin 3 → Nat :=
  let c3_2724 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7240 : Index := Scalar.indexCast v101
  let c35_2725 : Index := 35#32
  ![3, v7240.toNat, 35]
def k0_off328 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7246 : Index := Scalar.indexCast v101
  let c4480_2726 : Index := 4480#32
  ![v7246.toNat, 4480]
def k0_off329 (k0_t1 : Fin k0_t1_loop.trips) : Fin 3 → Nat :=
  let c0_2774 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7383 : Index := Scalar.indexCast v101
  let c4608 : Index := 4608#32
  ![0, v7383.toNat, 4608]
def k0_off330 (k0_t1 : Fin k0_t1_loop.trips) : Fin 3 → Nat :=
  let c0_2776 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7389 : Index := Scalar.indexCast v101
  let c36 : Index := 36#32
  ![0, v7389.toNat, 36]
def k0_off331 (k0_t1 : Fin k0_t1_loop.trips) : Fin 3 → Nat :=
  let c1_2780 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7400 : Index := Scalar.indexCast v101
  let c4608_2781 : Index := 4608#32
  ![1, v7400.toNat, 4608]
def k0_off332 (k0_t1 : Fin k0_t1_loop.trips) : Fin 3 → Nat :=
  let c1_2783 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7406 : Index := Scalar.indexCast v101
  let c36_2784 : Index := 36#32
  ![1, v7406.toNat, 36]
def k0_off333 (k0_t1 : Fin k0_t1_loop.trips) : Fin 3 → Nat :=
  let c2_2788 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7418 : Index := Scalar.indexCast v101
  let c4608_2789 : Index := 4608#32
  ![2, v7418.toNat, 4608]
def k0_off334 (k0_t1 : Fin k0_t1_loop.trips) : Fin 3 → Nat :=
  let c2_2791 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7424 : Index := Scalar.indexCast v101
  let c36_2792 : Index := 36#32
  ![2, v7424.toNat, 36]
def k0_off335 (k0_t1 : Fin k0_t1_loop.trips) : Fin 3 → Nat :=
  let c3_2796 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7436 : Index := Scalar.indexCast v101
  let c4608_2797 : Index := 4608#32
  ![3, v7436.toNat, 4608]
def k0_off336 (k0_t1 : Fin k0_t1_loop.trips) : Fin 3 → Nat :=
  let c3_2799 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7442 : Index := Scalar.indexCast v101
  let c36_2800 : Index := 36#32
  ![3, v7442.toNat, 36]
def k0_off337 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7448 : Index := Scalar.indexCast v101
  let c4608_2801 : Index := 4608#32
  ![v7448.toNat, 4608]
def k0_off338 (k0_t1 : Fin k0_t1_loop.trips) : Fin 3 → Nat :=
  let c0_2849 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7585 : Index := Scalar.indexCast v101
  let c4736 : Index := 4736#32
  ![0, v7585.toNat, 4736]
def k0_off339 (k0_t1 : Fin k0_t1_loop.trips) : Fin 3 → Nat :=
  let c0_2851 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7591 : Index := Scalar.indexCast v101
  let c37 : Index := 37#32
  ![0, v7591.toNat, 37]
def k0_off340 (k0_t1 : Fin k0_t1_loop.trips) : Fin 3 → Nat :=
  let c1_2855 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7602 : Index := Scalar.indexCast v101
  let c4736_2856 : Index := 4736#32
  ![1, v7602.toNat, 4736]
def k0_off341 (k0_t1 : Fin k0_t1_loop.trips) : Fin 3 → Nat :=
  let c1_2858 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7608 : Index := Scalar.indexCast v101
  let c37_2859 : Index := 37#32
  ![1, v7608.toNat, 37]
def k0_off342 (k0_t1 : Fin k0_t1_loop.trips) : Fin 3 → Nat :=
  let c2_2863 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7620 : Index := Scalar.indexCast v101
  let c4736_2864 : Index := 4736#32
  ![2, v7620.toNat, 4736]
def k0_off343 (k0_t1 : Fin k0_t1_loop.trips) : Fin 3 → Nat :=
  let c2_2866 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7626 : Index := Scalar.indexCast v101
  let c37_2867 : Index := 37#32
  ![2, v7626.toNat, 37]
def k0_off344 (k0_t1 : Fin k0_t1_loop.trips) : Fin 3 → Nat :=
  let c3_2871 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7638 : Index := Scalar.indexCast v101
  let c4736_2872 : Index := 4736#32
  ![3, v7638.toNat, 4736]
def k0_off345 (k0_t1 : Fin k0_t1_loop.trips) : Fin 3 → Nat :=
  let c3_2874 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7644 : Index := Scalar.indexCast v101
  let c37_2875 : Index := 37#32
  ![3, v7644.toNat, 37]
def k0_off346 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7650 : Index := Scalar.indexCast v101
  let c4736_2876 : Index := 4736#32
  ![v7650.toNat, 4736]
def k0_off347 (k0_t1 : Fin k0_t1_loop.trips) : Fin 3 → Nat :=
  let c0_2924 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7787 : Index := Scalar.indexCast v101
  let c4864 : Index := 4864#32
  ![0, v7787.toNat, 4864]
def k0_off348 (k0_t1 : Fin k0_t1_loop.trips) : Fin 3 → Nat :=
  let c0_2926 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7793 : Index := Scalar.indexCast v101
  let c38 : Index := 38#32
  ![0, v7793.toNat, 38]
def k0_off349 (k0_t1 : Fin k0_t1_loop.trips) : Fin 3 → Nat :=
  let c1_2930 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7804 : Index := Scalar.indexCast v101
  let c4864_2931 : Index := 4864#32
  ![1, v7804.toNat, 4864]
def k0_off350 (k0_t1 : Fin k0_t1_loop.trips) : Fin 3 → Nat :=
  let c1_2933 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7810 : Index := Scalar.indexCast v101
  let c38_2934 : Index := 38#32
  ![1, v7810.toNat, 38]
def k0_off351 (k0_t1 : Fin k0_t1_loop.trips) : Fin 3 → Nat :=
  let c2_2938 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7822 : Index := Scalar.indexCast v101
  let c4864_2939 : Index := 4864#32
  ![2, v7822.toNat, 4864]
def k0_off352 (k0_t1 : Fin k0_t1_loop.trips) : Fin 3 → Nat :=
  let c2_2941 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7828 : Index := Scalar.indexCast v101
  let c38_2942 : Index := 38#32
  ![2, v7828.toNat, 38]
def k0_off353 (k0_t1 : Fin k0_t1_loop.trips) : Fin 3 → Nat :=
  let c3_2946 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7840 : Index := Scalar.indexCast v101
  let c4864_2947 : Index := 4864#32
  ![3, v7840.toNat, 4864]
def k0_off354 (k0_t1 : Fin k0_t1_loop.trips) : Fin 3 → Nat :=
  let c3_2949 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7846 : Index := Scalar.indexCast v101
  let c38_2950 : Index := 38#32
  ![3, v7846.toNat, 38]
def k0_off355 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7852 : Index := Scalar.indexCast v101
  let c4864_2951 : Index := 4864#32
  ![v7852.toNat, 4864]
def k0_off356 (k0_t1 : Fin k0_t1_loop.trips) : Fin 3 → Nat :=
  let c0_2999 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7989 : Index := Scalar.indexCast v101
  let c4992 : Index := 4992#32
  ![0, v7989.toNat, 4992]
def k0_off357 (k0_t1 : Fin k0_t1_loop.trips) : Fin 3 → Nat :=
  let c0_3001 : Index := 0#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v7995 : Index := Scalar.indexCast v101
  let c39 : Index := 39#32
  ![0, v7995.toNat, 39]
def k0_off358 (k0_t1 : Fin k0_t1_loop.trips) : Fin 3 → Nat :=
  let c1_3005 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v8006 : Index := Scalar.indexCast v101
  let c4992_3006 : Index := 4992#32
  ![1, v8006.toNat, 4992]
def k0_off359 (k0_t1 : Fin k0_t1_loop.trips) : Fin 3 → Nat :=
  let c1_3008 : Index := 1#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v8012 : Index := Scalar.indexCast v101
  let c39_3009 : Index := 39#32
  ![1, v8012.toNat, 39]
def k0_off360 (k0_t1 : Fin k0_t1_loop.trips) : Fin 3 → Nat :=
  let c2_3013 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v8024 : Index := Scalar.indexCast v101
  let c4992_3014 : Index := 4992#32
  ![2, v8024.toNat, 4992]
def k0_off361 (k0_t1 : Fin k0_t1_loop.trips) : Fin 3 → Nat :=
  let c2_3016 : Index := 2#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v8030 : Index := Scalar.indexCast v101
  let c39_3017 : Index := 39#32
  ![2, v8030.toNat, 39]
def k0_off362 (k0_t1 : Fin k0_t1_loop.trips) : Fin 3 → Nat :=
  let c3_3021 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v8042 : Index := Scalar.indexCast v101
  let c4992_3022 : Index := 4992#32
  ![3, v8042.toNat, 4992]
def k0_off363 (k0_t1 : Fin k0_t1_loop.trips) : Fin 3 → Nat :=
  let c3_3024 : Index := 3#32
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v8048 : Index := Scalar.indexCast v101
  let c39_3025 : Index := 39#32
  ![3, v8048.toNat, 39]
def k0_off364 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v8054 : Index := Scalar.indexCast v101
  let c4992_3026 : Index := 4992#32
  ![v8054.toNat, 4992]
def k0_off365 (k0_t1 : Fin k0_t1_loop.trips) : Fin 2 → Nat :=
  let c0_i32_58 : BitVec 32 := 0#32
  let c0_i32_50 : BitVec 32 := 0#32
  let c1_i32_51 : BitVec 32 := 1#32
  let arg16 : BitVec 32 := Scf.iv c0_i32_50 c1_i32_51 k0_t1
  let c1_i32_57 : BitVec 32 := 1#32
  let v98 : BitVec 32 := Scalar.muli arg16 c1_i32_57
  let v99 : BitVec 32 := Scalar.addi c0_i32_58 v98
  let c32_i32 : BitVec 32 := 32#32
  let v100 : BitVec 32 := Scalar.muli v99 c32_i32
  let v101 : BitVec 32 := v100
  let v8185 : Index := Scalar.indexCast v101
  let c0_3071 : Index := 0#32
  ![v8185.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x128x5120 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x5120 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x5120 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x5120 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x5120 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S40x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4x8192x5120 : Shape := ⟨3, ![4, 8192, 5120]⟩
abbrev S4x8192x40 : Shape := ⟨3, ![4, 8192, 40]⟩
abbrev S8192x5120 : Shape := ⟨2, ![8192, 5120]⟩
abbrev S8192 : Shape := ⟨1, ![8192]⟩
abbrev S40x8192 : Shape := ⟨2, ![40, 8192]⟩
abbrev S4x8192x40x128 : Shape := ⟨4, ![4, 8192, 40, 128]⟩
abbrev S1x8192x1x1 : Shape := ⟨4, ![1, 8192, 1, 1]⟩
abbrev S4x8192x40x1 : Shape := ⟨4, ![4, 8192, 40, 1]⟩
abbrev S8192x40x128 : Shape := ⟨3, ![8192, 40, 128]⟩
abbrev S8192x1x1 : Shape := ⟨3, ![8192, 1, 1]⟩
abbrev S8192x40 : Shape := ⟨2, ![8192, 40]⟩
abbrev S8192x40x1 : Shape := ⟨3, ![8192, 40, 1]⟩

abbrev nBuf : Space → Nat
  | .hbm => 12
  | .vmem => 12
  | .smem => 0
  | _ => 0

abbrev bufTy : (tb : Table) → Fin (tcTables nBuf tb) → BufTy
  | .hbm, ⟨0, _⟩ => ⟨S4x8192x5120, .fp8e5m2⟩
  | .hbm, ⟨1, _⟩ => ⟨S4x8192x40, .f32⟩
  | .hbm, ⟨2, _⟩ => ⟨S8192x5120, .f32⟩
  | .hbm, ⟨3, _⟩ => ⟨S8192x5120, .f32⟩
  | .hbm, ⟨4, _⟩ => ⟨S8192x5120, .f32⟩
  | .hbm, ⟨5, _⟩ => ⟨S8192, .i32⟩
  | .hbm, ⟨6, _⟩ => ⟨S8192x5120, .f32⟩
  | .hbm, ⟨7, _⟩ => ⟨S8192x5120, .f32⟩
  | .hbm, ⟨8, _⟩ => ⟨S8192x5120, .f32⟩
  | .hbm, ⟨9, _⟩ => ⟨S8192x5120, .f32⟩
  | .hbm, ⟨10, _⟩ => ⟨S8192x5120, .fp8e4m3⟩
  | .hbm, ⟨11, _⟩ => ⟨S40x8192, .f32⟩
  | .local _ .vmem, ⟨0, _⟩ => ⟨S4x8192x5120, .fp8e5m2⟩
  | .local _ .vmem, ⟨1, _⟩ => ⟨S4x8192x40, .f32⟩
  | .local _ .vmem, ⟨2, _⟩ => ⟨S8192x5120, .f32⟩
  | .local _ .vmem, ⟨3, _⟩ => ⟨S8192x5120, .f32⟩
  | .local _ .vmem, ⟨4, _⟩ => ⟨S8192x5120, .f32⟩
  | .local _ .vmem, ⟨5, _⟩ => ⟨S8192, .i32⟩
  | .local _ .vmem, ⟨6, _⟩ => ⟨S8192x5120, .f32⟩
  | .local _ .vmem, ⟨7, _⟩ => ⟨S8192x5120, .f32⟩
  | .local _ .vmem, ⟨8, _⟩ => ⟨S8192x5120, .f32⟩
  | .local _ .vmem, ⟨9, _⟩ => ⟨S8192x5120, .f32⟩
  | .local _ .vmem, ⟨10, _⟩ => ⟨S8192x5120, .fp8e4m3⟩
  | .local _ .vmem, ⟨11, _⟩ => ⟨S40x8192, .f32⟩
  | _, _ => ⟨S4x8192x5120, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4x8192x5120 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x5120 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S40x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Block.lean ====
/- The arithmetic of one 32 × 128 block of the optimiser step, written once: the masked sum over the ranks, the two
   moments, the update, the new weights, the quantiser's scale ladder and the codes. `Trip.lean` shows that every
   block the kernel's loop body computes is this one. -/
module

public import proofs.«01_k».proof.Proof.Gen.KernelIdeal.Loops

@[expose] public section

noncomputable section

namespace Cert.KernelIdeal.Block

open Cert.KernelIdeal Cert.KernelIdeal.Gen Idealize.ShloMosaic Idealize.ShloMosaic.TcCoe Idealize.SL.Sem

variable {F : FTy → Type} [FloatOps F]

/-- A 32 × 128 block of one f32 word. -/
abbrev cst (w : BitVec 32) : FVec F S32x128 .f32 := broadcast S32x128 (Scalar.ofBits .f32 w : F .f32)

/-- Where the packed mask keeps an entry: its byte is not zero. -/
def keep (w : Vec F S1x8x128 .i32) : IVec S32x128 1 :=
  cmpi .ne (bitcast S32x128 8 (shapeCast S8x128 w shapeCasts_S1x8x128_S8x128 : IVec S8x128 32) bitcasts_S8x128_w32_S32x128_w8)
    (broadcast S32x128 0#8)

/-- One rank's term: its masked codes times its scale column. -/
def term (w : Vec F S1x8x128 .i32) (c : Vec F S1x32x128 .fp8e5m2) (s : Vec F S1x32x1 .f32) : FVec F S32x128 .f32 :=
  mulf (select (keep w) (extf .f32 (shapeCast S32x128 c shapeCasts_S1x32x128_S32x128 : FVec F S32x128 .fp8e5m2) bitsLt_fp8e5m2_f32) (cst 0x00000000#32))
    (broadcastTo S32x128 (shapeCast S32x1 s shapeCasts_S1x32x1_S32x1 : FVec F S32x1 .f32) broadcasts_S32x1_S32x128)

/-- The first moment after the step. -/
def mom (m g : FVec F S32x128 .f32) : FVec F S32x128 .f32 := addf (mulf (cst 0x3F666666#32) m) (mulf (cst 0x3DCCCCCD#32) g)

/-- The second moment after the step. -/
def vel (v g : FVec F S32x128 .f32) : FVec F S32x128 .f32 := addf (mulf (cst 0x3F733333#32) v) (mulf (cst 0x3D4CCCCD#32) (mulf g g))

/-- The update, from the new moments and the weights. -/
def updt (m v p : FVec F S32x128 .f32) : FVec F S32x128 .f32 :=
  mulf (cst 0x3C23D70A#32) (addf (divf (divf m (cst 0x3F60E05A#32)) (addf (sqrt (divf v (cst 0x3F243A44#32))) (cst 0x322BCC77#32)))
    (mulf (cst 0x3DCCCCCD#32) p))

/-- A row's largest magnitude, in every lane of the row. -/
def rowMax (p : FVec F S32x128 .f32) : FVec F S32x128 .f32 :=
  broadcastTo S32x128 (shapeCast S32x1 (shapeCast S32x1 (multiReduction .maximumf [1] S32 (absf p) 0xFF800000#32 reduces_S32x128_S32 (.inl rfl) rfl : FVec F S32 .f32)
    shapeCasts_S32_S32x1 : FVec F S32x1 .f32) shapeCasts_S32x1_S32x1 : FVec F S32x1 .f32) broadcasts_S32x1_S32x128

/-- The number whose power of two the ladder looks for: the largest magnitude over 448, or one half outside the
    normal range. -/
def seed (a : FVec F S32x128 .f32) : FVec F S32x128 .f32 :=
  select (andi (cmpf .oge (mulf a (cst 0x3B124925#32)) (cst 0x00800000#32)) (cmpf .ole (mulf a (cst 0x3B124925#32)) (cst 0x7F7FFFFF#32)))
    (mulf a (cst 0x3B124925#32)) (cst 0x3F000000#32)

/-- One rung for the power: multiply by `q` if that stays at or below `x`. -/
def up (q : BitVec 32) (x p : FVec F S32x128 .f32) : FVec F S32x128 .f32 := select (cmpf .ole (mulf p (cst q)) x) (mulf p (cst q)) p

/-- The same rung for the inverse: multiply by `r` where the power went up. -/
def dn (q r : BitVec 32) (x p i : FVec F S32x128 .f32) : FVec F S32x128 .f32 := select (cmpf .ole (mulf p (cst q)) x) (mulf i (cst r)) i

def p0 : FVec F S32x128 .f32 := cst 0x00800000#32
def p1 (x : FVec F S32x128 .f32) : FVec F S32x128 .f32 := up 0x5F800000#32 x p0
def p2 (x : FVec F S32x128 .f32) : FVec F S32x128 .f32 := up 0x5F800000#32 x (p1 x)
def p3 (x : FVec F S32x128 .f32) : FVec F S32x128 .f32 := up 0x5F800000#32 x (p2 x)
def p4 (x : FVec F S32x128 .f32) : FVec F S32x128 .f32 := up 0x4F800000#32 x (p3 x)
def p5 (x : FVec F S32x128 .f32) : FVec F S32x128 .f32 := up 0x47800000#32 x (p4 x)
def p6 (x : FVec F S32x128 .f32) : FVec F S32x128 .f32 := up 0x43800000#32 x (p5 x)
def p7 (x : FVec F S32x128 .f32) : FVec F S32x128 .f32 := up 0x41800000#32 x (p6 x)
def p8 (x : FVec F S32x128 .f32) : FVec F S32x128 .f32 := up 0x40800000#32 x (p7 x)
def p9 (x : FVec F S32x128 .f32) : FVec F S32x128 .f32 := up 0x40000000#32 x (p8 x)

def i1 (x : FVec F S32x128 .f32) : FVec F S32x128 .f32 := dn 0x5F800000#32 0x1F800000#32 x p0 (cst 0x7E000000#32)
def i2 (x : FVec F S32x128 .f32) : FVec F S32x128 .f32 := dn 0x5F800000#32 0x1F800000#32 x (p1 x) (i1 x)
def i3 (x : FVec F S32x128 .f32) : FVec F S32x128 .f32 := dn 0x5F800000#32 0x1F800000#32 x (p2 x) (i2 x)
def i4 (x : FVec F S32x128 .f32) : FVec F S32x128 .f32 := dn 0x4F800000#32 0x2F800000#32 x (p3 x) (i3 x)
def i5 (x : FVec F S32x128 .f32) : FVec F S32x128 .f32 := dn 0x47800000#32 0x37800000#32 x (p4 x) (i4 x)
def i6 (x : FVec F S32x128 .f32) : FVec F S32x128 .f32 := dn 0x43800000#32 0x3B800000#32 x (p5 x) (i5 x)
def i7 (x : FVec F S32x128 .f32) : FVec F S32x128 .f32 := dn 0x41800000#32 0x3D800000#32 x (p6 x) (i6 x)
def i8 (x : FVec F S32x128 .f32) : FVec F S32x128 .f32 := dn 0x40800000#32 0x3E800000#32 x (p7 x) (i7 x)
def i9 (x : FVec F S32x128 .f32) : FVec F S32x128 .f32 := dn 0x40000000#32 0x3F000000#32 x (p8 x) (i8 x)

/-- The scale: twice the power the ladder ends at. -/
def scl (x : FVec F S32x128 .f32) : FVec F S32x128 .f32 := mulf (p9 x) (cst 0x40000000#32)

/-- The codes: the weights times the inverse scale, clipped to ±448. -/
def code (p i : FVec F S32x128 .f32) : FVec F S32x128 .fp8e4m3 :=
  truncf .fp8e4m3 (minimumf (cst 0x43E00000#32) (maximumf (cst 0xC3E00000#32) (mulf p i))) bitsLt_fp8e4m3_f32

/-! ## What the loop body loads, and the block's results as functions of the buffers -/

/-- The row the trip's blocks start at. -/
abbrev R (k : Fin k0_t1_loop.trips) : Nat := k0_off13 k 0

/-- The row of packed mask words the trip's blocks start at. -/
abbrev W (k : Fin k0_t1_loop.trips) : Nat := k0_off1 k 1

theorem R_eq : ∀ k : Fin k0_t1_loop.trips, R k = 32 * k.val := by decide +kernel
theorem W_eq : ∀ k : Fin k0_t1_loop.trips, W k = 8 * k.val := by decide +kernel
theorem k_lt (k : Fin k0_t1_loop.trips) : k.val < 4 := Nat.lt_of_lt_of_le k.isLt k0_t1_abs.2.1

theorem inb2 (k : Fin k0_t1_loop.trips) (b : Fin 40) : ∀ a, (![R k, 128 * b.val] : Fin 2 → Nat) a + S32x128.size a ≤ S128x5120.size a := by
  have h := R_eq k; have hk := k_lt k; have hb := b.isLt
  intro a; match a with
  | ⟨0, _⟩ => show R k + 32 ≤ 128; omega
  | ⟨1, _⟩ => show 128 * b.val + 128 ≤ 5120; omega

theorem inb1 (k : Fin k0_t1_loop.trips) (p : Fin 4) (b : Fin 40) : ∀ a, (![p.val, R k, 128 * b.val] : Fin 3 → Nat) a + S1x32x128.size a ≤ S4x128x5120.size a := by
  have h := R_eq k; have hk := k_lt k; have hb := b.isLt; have hp := p.isLt
  intro a; match a with
  | ⟨0, _⟩ => show p.val + 1 ≤ 4; omega
  | ⟨1, _⟩ => show R k + 32 ≤ 128; omega
  | ⟨2, _⟩ => show 128 * b.val + 128 ≤ 5120; omega

theorem inb13 (k : Fin k0_t1_loop.trips) (p : Fin 4) (b : Fin 40) : ∀ a, (![p.val, R k, b.val] : Fin 3 → Nat) a + S1x32x1.size a ≤ S4x128x128.size a := by
  have h := R_eq k; have hk := k_lt k; have hb := b.isLt; have hp := p.isLt
  intro a; match a with
  | ⟨0, _⟩ => show p.val + 1 ≤ 4; omega
  | ⟨1, _⟩ => show R k + 32 ≤ 128; omega
  | ⟨2, _⟩ => show b.val + 1 ≤ 128; omega

theorem inb14 (k : Fin k0_t1_loop.trips) (p : Fin 4) : ∀ a, (![p.val, W k, 0] : Fin 3 → Nat) a + S1x8x128.size a ≤ S4x32x128.size a := by
  have h := W_eq k; have hk := k_lt k; have hp := p.isLt
  intro a; match a with
  | ⟨0, _⟩ => show p.val + 1 ≤ 4; omega
  | ⟨1, _⟩ => show W k + 8 ≤ 32; omega
  | ⟨2, _⟩ => show 0 + 128 ≤ 128; omega

theorem inb15 (k : Fin k0_t1_loop.trips) : ∀ a, (![R k, 0] : Fin 2 → Nat) a + S32x128.size a ≤ S128x128.size a := by
  have h := R_eq k; have hk := k_lt k
  intro a; match a with
  | ⟨0, _⟩ => show R k + 32 ≤ 128; omega
  | ⟨1, _⟩ => show 0 + 128 ≤ 128; omega

/-- What the loop body reads: the codes, the weights, the two moments, the scale columns and the packed masks. -/
structure Bufs (F : FTy → Type) [FloatOps F] where
  x1 : Vec F S4x128x5120 .fp8e5m2
  x4 : Vec F S128x5120 .f32
  x5 : Vec F S128x5120 .f32
  x6 : Vec F S128x5120 .f32
  x13 : Vec F S4x128x128 .f32
  x14 : Vec F S4x32x128 .i32

section
variable (B : Bufs F) (k : Fin k0_t1_loop.trips) (b : Fin 40)

/-- The block of a [128, 5120] buffer at trip `k`'s rows and block `b`'s columns. -/
def rd (x : Vec F S128x5120 .f32) : FVec F S32x128 .f32 := fun j => x ((Rect.unit (s := S128x5120) ![R k, 128 * b.val] S32x128.size (inb2 k b)).toLoadRect.idx j)

/-- One rank's term of the block, read out of the buffers. -/
def trm (p : Fin 4) : FVec F S32x128 .f32 :=
  term (fun j => B.x14 ((Rect.unit (s := S4x32x128) ![p.val, W k, 0] S1x8x128.size (inb14 k p)).toLoadRect.idx j))
    (fun j => B.x1 ((Rect.unit (s := S4x128x5120) ![p.val, R k, 128 * b.val] S1x32x128.size (inb1 k p b)).toLoadRect.idx j))
    (fun j => B.x13 ((Rect.unit (s := S4x128x128) ![p.val, R k, b.val] S1x32x1.size (inb13 k p b)).toLoadRect.idx j))

/-- The averaged gradient's block. -/
def grad : FVec F S32x128 .f32 := addf (addf (addf (trm B k b 0) (trm B k b 1)) (trm B k b 2)) (trm B k b 3)

/-- The block's new first moment. -/
def newM : FVec F S32x128 .f32 := mom (rd k b B.x5) (grad B k b)

/-- The block's new second moment. -/
def newV : FVec F S32x128 .f32 := vel (rd k b B.x6) (grad B k b)

/-- The block's update. -/
def upd : FVec F S32x128 .f32 := updt (newM B k b) (newV B k b) (rd k b B.x4)

/-- The block's new weights. -/
def newP : FVec F S32x128 .f32 := subf (rd k b B.x4) (upd B k b)

/-- What the block's rows start the ladder from. -/
def sd : FVec F S32x128 .f32 := seed (rowMax (newP B k b))

/-- The block's scales, one for each row, in every lane. -/
def scale : FVec F S32x128 .f32 := scl (sd B k b)

/-- The block's codes. -/
def codes : FVec F S32x128 .fp8e4m3 := code (newP B k b) (i9 (sd B k b))

/-- The lanes' scales after `n` blocks: block `b`'s scale sits in lane `b`. -/
def lanes (v92 : IVec S32x128 32) : (n : Nat) → n ≤ 40 → FVec F S32x128 .f32
  | 0, _ => cst 0x3F800000#32
  | n + 1, h => select (cmpi .eq v92 (broadcast S32x128 (BitVec.ofNat 32 n))) (scale B k ⟨n, h⟩)
      (lanes v92 n (Nat.le_of_succ_le h))
end

end Cert.KernelIdeal.Block

end
-- ==== Proof.Trip.lean ====
/- What one trip of the kernel's row loop writes: for every output, forty pieces, one for each block of columns, each
   the block arithmetic of `Block.lean` at that block; and into the lane buffer one piece, the forty scales. -/
module

public import proofs.«01_k».proof.Proof.Block

@[expose] public section

set_option maxRecDepth 100000
set_option maxHeartbeats 4000000

noncomputable section

namespace Cert.KernelIdeal.Block

open Cert.KernelIdeal Cert.KernelIdeal.Gen Idealize.ShloMosaic Idealize.ShloMosaic.TcCoe Idealize.ShloMosaic.Tactic Idealize.SL.Sem

variable {F : FTy → Type} [FloatOps F]

/-- Block `b`'s rectangle of an output, at trip `k`'s rows. -/
abbrev blockRect (k : Fin k0_t1_loop.trips) (b : Fin 40) : Rect S128x5120 := Rect.unit (s := S128x5120) ![R k, 128 * b.val] ![32, 128] (inb2 k b)

variable (𝒱 : Variants) (c : Dev nD) (bd : Option 𝒱.V) (i : grid0.Coords) (arg1 : Memref sig .tc .vmem S4x128x5120 .fp8e5m2) (harg1 : arg1.IsWhole) (arg2 : Memref sig .tc .vmem S4x40x128 .f32) (harg2 : arg2.IsWhole) (arg3 : Memref sig .tc .vmem S1x1x128 .i32) (harg3 : arg3.IsWhole) (arg4 : Memref sig .tc .vmem S128x5120 .f32) (harg4 : arg4.IsWhole) (arg5 : Memref sig .tc .vmem S128x5120 .f32) (harg5 : arg5.IsWhole) (arg6 : Memref sig .tc .vmem S128x5120 .f32) (harg6 : arg6.IsWhole) (arg7 : Memref sig .tc .vmem S128x5120 .f32) (harg7 : arg7.IsWhole) (arg8 : Memref sig .tc .vmem S128x5120 .f32) (harg8 : arg8.IsWhole) (arg9 : Memref sig .tc .vmem S128x5120 .f32) (harg9 : arg9.IsWhole) (arg10 : Memref sig .tc .vmem S128x5120 .f32) (harg10 : arg10.IsWhole) (arg11 : Memref sig .tc .vmem S128x5120 .fp8e4m3) (harg11 : arg11.IsWhole) (arg12 : Memref sig .tc .vmem S40x128 .f32) (harg12 : arg12.IsWhole) (arg13 : Memref sig .tc .vmem S4x128x128 .f32) (harg13 : arg13.IsWhole) (arg14 : Memref sig .tc .vmem S4x32x128 .i32) (harg14 : arg14.IsWhole) (arg15 : Memref sig .tc .vmem S128x128 .f32) (harg15 : arg15.IsWhole) (X_arg1 : BufTy.Contents (Elt F) arg1.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (X_arg14 : BufTy.Contents (Elt F) arg14.view.ty) (k : Fin k0_t1_loop.trips)

/-- What the trip reads, as vectors. -/
abbrev bufs (arg1 : Memref sig .tc .vmem S4x128x5120 .fp8e5m2) (arg4 arg5 arg6 : Memref sig .tc .vmem S128x5120 .f32)
    (arg13 : Memref sig .tc .vmem S4x128x128 .f32) (arg14 : Memref sig .tc .vmem S4x32x128 .i32)
    (X_arg1 : BufTy.Contents (Elt F) arg1.view.ty) (X_arg4 : BufTy.Contents (Elt F) arg4.view.ty) (X_arg5 : BufTy.Contents (Elt F) arg5.view.ty)
    (X_arg6 : BufTy.Contents (Elt F) arg6.view.ty) (X_arg13 : BufTy.Contents (Elt F) arg13.view.ty) (X_arg14 : BufTy.Contents (Elt F) arg14.view.ty) : Bufs F :=
  ⟨arg1.view.read (Elt F) X_arg1, arg4.view.read (Elt F) X_arg4, arg5.view.read (Elt F) X_arg5, arg6.view.read (Elt F) X_arg6,
    arg13.view.read (Elt F) X_arg13, arg14.view.read (Elt F) X_arg14⟩

/-- The trip's pieces of this output: the blocks' `newP`, the last block first. -/
theorem trip_newP : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 k).1
    = List.ofFn fun b : Fin 40 => (⟨blockRect k b.rev, newP (bufs arg1 arg4 arg5 arg6 arg13 arg14 X_arg1 X_arg4 X_arg5 X_arg6 X_arg13 X_arg14) k b.rev⟩ : View.Piece (Elt F) S128x5120 .f32) := by
  unfold trip_k0_t1
  sl_kernel_rfl

/-- The trip's pieces of this output: the blocks' `newM`, the last block first. -/
theorem trip_newM : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 k).2.1
    = List.ofFn fun b : Fin 40 => (⟨blockRect k b.rev, newM (bufs arg1 arg4 arg5 arg6 arg13 arg14 X_arg1 X_arg4 X_arg5 X_arg6 X_arg13 X_arg14) k b.rev⟩ : View.Piece (Elt F) S128x5120 .f32) := by
  unfold trip_k0_t1
  sl_kernel_rfl

/-- The trip's pieces of this output: the blocks' `newV`, the last block first. -/
theorem trip_newV : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 k).2.2.1
    = List.ofFn fun b : Fin 40 => (⟨blockRect k b.rev, newV (bufs arg1 arg4 arg5 arg6 arg13 arg14 X_arg1 X_arg4 X_arg5 X_arg6 X_arg13 X_arg14) k b.rev⟩ : View.Piece (Elt F) S128x5120 .f32) := by
  unfold trip_k0_t1
  sl_kernel_rfl

/-- The trip's pieces of this output: the blocks' `upd`, the last block first. -/
theorem trip_upd : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 k).2.2.2.1
    = List.ofFn fun b : Fin 40 => (⟨blockRect k b.rev, upd (bufs arg1 arg4 arg5 arg6 arg13 arg14 X_arg1 X_arg4 X_arg5 X_arg6 X_arg13 X_arg14) k b.rev⟩ : View.Piece (Elt F) S128x5120 .f32) := by
  unfold trip_k0_t1
  sl_kernel_rfl

/-- The trip's pieces of this output: the blocks' `codes`, the last block first. -/
theorem trip_codes : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 k).2.2.2.2.1
    = List.ofFn fun b : Fin 40 => (⟨blockRect k b.rev, codes (bufs arg1 arg4 arg5 arg6 arg13 arg14 X_arg1 X_arg4 X_arg5 X_arg6 X_arg13 X_arg14) k b.rev⟩ : View.Piece (Elt F) S128x5120 .fp8e4m3) := by
  unfold trip_k0_t1
  sl_kernel_rfl

/-- The trip's piece of the lane buffer: the forty scales in their lanes. -/
theorem trip_lanes : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 k).2.2.2.2.2.1
    = [(⟨Rect.unit (s := S128x128) ![R k, 0] ![32, 128] (inb15 k), shapeCast S32x128 (lanes (bufs arg1 arg4 arg5 arg6 arg13 arg14 X_arg1 X_arg4 X_arg5 X_arg6 X_arg13 X_arg14) k (iota .tc S32x128 32 [1] iota_S32x128_d1_w32) 40 (le_refl 40)) shapeCasts_S32x128_S32x128⟩ : View.Piece (Elt F) S128x128 .f32)] := by
  unfold trip_k0_t1
  sl_kernel_rfl

end Cert.KernelIdeal.Block

end
-- ==== Proof.Scale.lean ====
/- The quantiser's scale on the extended reals. The reference takes `2 ^ (⌊log x / log 2⌋ + 1)`; the kernel climbs a
   ladder of nine multiply-or-keep rungs that finds the largest power of two at or below `x`. This file shows that the
   ladder ends at the reference's power, and its inverse at the reference's inverse. -/
module

public import Idealize.ShloMosaic.PureOps.Ideal
public import Mathlib.Analysis.SpecialFunctions.Log.Basic

@[expose] public section

noncomputable section

namespace Cert.Num

open Idealize.ShloMosaic

/-- The number an f32 word stands for. -/
abbrev w32 (b : BitVec 32) : EReal := Ideal.ofBits .f32 b

/-- A word with no sign and no fraction is the power of two its exponent says. -/
theorem w32_pow (b : BitVec 32) (k : ℤ)
    (h : (b.extractLsb' 31 1 == 1#1) = false ∧ (b.extractLsb' 0 23).toNat = 0 ∧ (b.extractLsb' 23 8).toNat ≠ 255
      ∧ (b.extractLsb' 23 8).toNat ≠ 0 ∧ ((b.extractLsb' 23 8).toNat : ℤ) - 127 = k) :
    w32 b = (((2 : ℝ) ^ k : ℝ) : EReal) := by
  obtain ⟨h1, h2, h3, h4, h5⟩ := h
  have h3' : ¬ (b.extractLsb' 23 8).toNat = 2 ^ 8 - 1 := h3
  show Ideal.ieee 8 23 b = _
  unfold Ideal.ieee
  rw [if_neg h3', if_neg h4]
  rw [show (8 + 23 : Nat) = 31 from rfl, h1, h2, ← h5]
  congr 1
  have e : (((2 ^ 23 + 0 : Nat) : ℝ)) = (2 : ℝ) ^ (23 : ℤ) := by norm_num
  rw [e]
  simp only [Bool.false_eq_true, if_false, one_mul]
  rw [← zpow_add₀ (by norm_num : (2 : ℝ) ≠ 0)]
  congr 1
  norm_num

/-- The largest finite word is a real below `2 ^ 128`. -/
theorem w32_max : w32 0x7F7FFFFF#32 < (((2 : ℝ) ^ (128 : ℤ) : ℝ) : EReal) := by
  show Ideal.ieee 8 23 (0x7F7FFFFF#32 : BitVec 32) < _
  unfold Ideal.ieee
  have a1 : (BitVec.extractLsb' 23 8 0x7F7FFFFF#32).toNat = 254 := by decide
  have a2 : (BitVec.extractLsb' 0 23 0x7F7FFFFF#32).toNat = 8388607 := by decide
  have a3 : (BitVec.extractLsb' (8 + 23) 1 0x7F7FFFFF#32 == 1#1) = false := by decide
  rw [a1, a2, a3, if_neg (by norm_num), if_neg (by norm_num)]
  rw [EReal.coe_lt_coe_iff]
  norm_num

/-- One rung for the power. -/
def up (q : BitVec 32) (x p : EReal) : EReal := Scalar.select (Ideal.cmp .ole (p * w32 q) x) (p * w32 q) p

/-- The same rung for the inverse. -/
def dn (q r : BitVec 32) (x p i : EReal) : EReal := Scalar.select (Ideal.cmp .ole (p * w32 q) x) (i * w32 r) i

def p0 : EReal := w32 0x00800000#32
def p1 (x : EReal) : EReal := up 0x5F800000#32 x p0
def p2 (x : EReal) : EReal := up 0x5F800000#32 x (p1 x)
def p3 (x : EReal) : EReal := up 0x5F800000#32 x (p2 x)
def p4 (x : EReal) : EReal := up 0x4F800000#32 x (p3 x)
def p5 (x : EReal) : EReal := up 0x47800000#32 x (p4 x)
def p6 (x : EReal) : EReal := up 0x43800000#32 x (p5 x)
def p7 (x : EReal) : EReal := up 0x41800000#32 x (p6 x)
def p8 (x : EReal) : EReal := up 0x40800000#32 x (p7 x)
def p9 (x : EReal) : EReal := up 0x40000000#32 x (p8 x)

def i1 (x : EReal) : EReal := dn 0x5F800000#32 0x1F800000#32 x p0 (w32 0x7E000000#32)
def i2 (x : EReal) : EReal := dn 0x5F800000#32 0x1F800000#32 x (p1 x) (i1 x)
def i3 (x : EReal) : EReal := dn 0x5F800000#32 0x1F800000#32 x (p2 x) (i2 x)
def i4 (x : EReal) : EReal := dn 0x4F800000#32 0x2F800000#32 x (p3 x) (i3 x)
def i5 (x : EReal) : EReal := dn 0x47800000#32 0x37800000#32 x (p4 x) (i4 x)
def i6 (x : EReal) : EReal := dn 0x43800000#32 0x3B800000#32 x (p5 x) (i5 x)
def i7 (x : EReal) : EReal := dn 0x41800000#32 0x3D800000#32 x (p6 x) (i6 x)
def i8 (x : EReal) : EReal := dn 0x40800000#32 0x3E800000#32 x (p7 x) (i7 x)
def i9 (x : EReal) : EReal := dn 0x40000000#32 0x3F000000#32 x (p8 x) (i8 x)

/-- The largest magnitude over 448. -/
def amax (a : EReal) : EReal := a * w32 0x3B124925#32

/-- Whether it lies in the normal range. -/
def normal (a : EReal) : BitVec 1 :=
  IntOp.andi (Ideal.cmp .oge (amax a) (w32 0x00800000#32)) (Ideal.cmp .ole (amax a) (w32 0x7F7FFFFF#32))

/-- What the ladder looks at: one half outside the normal range. -/
def seed (a : EReal) : EReal := Scalar.select (normal a) (amax a) (w32 0x3F000000#32)

/-- The ladder's scale. -/
def scl (x : EReal) : EReal := p9 x * w32 0x40000000#32

/-- The reference's exponent: zero outside the normal range. -/
def expo (a : EReal) : EReal :=
  Scalar.select (normal a)
    (Ideal.liftRound Int.floor (Ideal.div (Ideal.log (amax a)) (Ideal.log (w32 0x40000000#32))) + w32 0x3F800000#32)
    (w32 0x00000000#32)

/-- A select on a comparison is an `if` on the order. -/
theorem select_ole (x y : EReal) (a b : EReal) : Scalar.select (Ideal.cmp .ole x y) a b = if x ≤ y then a else b := by
  unfold Scalar.select Ideal.cmp
  by_cases h : x ≤ y <;> simp [h]

/-- The normal range, as a proposition. -/
theorem select_normal (v a b : EReal) :
    Scalar.select (normal v) a b = if w32 0x00800000#32 ≤ amax v ∧ amax v ≤ w32 0x7F7FFFFF#32 then a else b := by
  unfold normal Scalar.select Ideal.cmp IntOp.andi
  by_cases h : w32 0x00800000#32 ≤ amax v <;> by_cases h' : amax v ≤ w32 0x7F7FFFFF#32 <;> simp [h, h']

/-- After some rungs: `p` is a power of two at or below `x`, `x` lies below `p · 2 ^ R`, and `i` is `1 / (2 p)`. -/
def Inv (x : ℝ) (R : ℤ) (p i : EReal) : Prop :=
  ∃ n : ℤ, p = (((2 : ℝ) ^ n : ℝ) : EReal) ∧ i = (((2 : ℝ) ^ (-(n + 1)) : ℝ) : EReal) ∧ (2 : ℝ) ^ n ≤ x ∧ x < (2 : ℝ) ^ (n + R)

theorem rung {x : ℝ} {R R' k : ℤ} {p i : EReal} {q r : BitVec 32} (hq : w32 q = (((2 : ℝ) ^ k : ℝ) : EReal))
    (hr : w32 r = (((2 : ℝ) ^ (-k) : ℝ) : EReal)) (hk : R - k ≤ R') (hk' : k ≤ R') (h : Inv x R p i) :
    Inv x R' (up q x p) (dn q r x p i) := by
  obtain ⟨n, rfl, rfl, h1, h2⟩ := h
  unfold up dn
  rw [select_ole, select_ole, hq, hr, ← EReal.coe_mul, ← EReal.coe_mul, ← zpow_add₀ (by norm_num : (2 : ℝ) ≠ 0),
    ← zpow_add₀ (by norm_num : (2 : ℝ) ≠ 0)]
  by_cases hc : (2 : ℝ) ^ (n + k) ≤ x
  · have hc' : (((2 : ℝ) ^ (n + k) : ℝ) : EReal) ≤ (x : EReal) := by exact_mod_cast hc
    rw [if_pos hc', if_pos hc']
    refine ⟨n + k, rfl, by congr 2; ring, hc, h2.trans_le ?_⟩
    exact zpow_le_zpow_right₀ (by norm_num) (by omega)
  · have hc' : ¬ (((2 : ℝ) ^ (n + k) : ℝ) : EReal) ≤ (x : EReal) := by exact_mod_cast hc
    rw [if_neg hc', if_neg hc']
    refine ⟨n, rfl, rfl, h1, (not_le.mp hc).trans_le ?_⟩
    exact zpow_le_zpow_right₀ (by norm_num) (by omega)

/-- The whole ladder. -/
theorem ladder {x : ℝ} (h1 : (2 : ℝ) ^ (-126 : ℤ) ≤ x) (h2 : x < (2 : ℝ) ^ (128 : ℤ)) : Inv x 1 (p9 x) (i9 x) := by
  have s0 : Inv x 254 p0 (w32 0x7E000000#32) :=
    ⟨-126, w32_pow 0x00800000#32 (-126) (by decide), w32_pow 0x7E000000#32 _ (by decide), h1, h2⟩
  have s1 : Inv x 190 (p1 x) (i1 x) := rung (k := 64) (w32_pow _ _ (by decide)) (w32_pow _ _ (by decide)) (by norm_num) (by norm_num) s0
  have s2 : Inv x 126 (p2 x) (i2 x) := rung (k := 64) (w32_pow _ _ (by decide)) (w32_pow _ _ (by decide)) (by norm_num) (by norm_num) s1
  have s3 : Inv x 64 (p3 x) (i3 x) := rung (k := 64) (w32_pow _ _ (by decide)) (w32_pow _ _ (by decide)) (by norm_num) (by norm_num) s2
  have s4 : Inv x 32 (p4 x) (i4 x) := rung (k := 32) (w32_pow _ _ (by decide)) (w32_pow _ _ (by decide)) (by norm_num) (by norm_num) s3
  have s5 : Inv x 16 (p5 x) (i5 x) := rung (k := 16) (w32_pow _ _ (by decide)) (w32_pow _ _ (by decide)) (by norm_num) (by norm_num) s4
  have s6 : Inv x 8 (p6 x) (i6 x) := rung (k := 8) (w32_pow _ _ (by decide)) (w32_pow _ _ (by decide)) (by norm_num) (by norm_num) s5
  have s7 : Inv x 4 (p7 x) (i7 x) := rung (k := 4) (w32_pow _ _ (by decide)) (w32_pow _ _ (by decide)) (by norm_num) (by norm_num) s6
  have s8 : Inv x 2 (p8 x) (i8 x) := rung (k := 2) (w32_pow _ _ (by decide)) (w32_pow _ _ (by decide)) (by norm_num) (by norm_num) s7
  exact rung (k := 1) (w32_pow _ _ (by decide)) (w32_pow _ _ (by decide)) (by norm_num) (by norm_num) s8

/-- A power of two at or below `x` with `x` below its double has the exponent `⌊log x / log 2⌋`. -/
theorem floor_log {x : ℝ} {n : ℤ} (h1 : (2 : ℝ) ^ n ≤ x) (h2 : x < (2 : ℝ) ^ (n + 1)) : ⌊Real.log x / Real.log 2⌋ = n := by
  have hx : 0 < x := lt_of_lt_of_le (by positivity) h1
  have hl : 0 < Real.log 2 := Real.log_pos (by norm_num)
  rw [Int.floor_eq_iff]
  constructor
  · rw [le_div_iff₀ hl, ← Real.log_zpow]
    exact Real.log_le_log (by positivity) h1
  · rw [div_lt_iff₀ hl]
    have : ((n : ℝ) + 1) * Real.log 2 = Real.log ((2 : ℝ) ^ (n + 1)) := by rw [Real.log_zpow]; push_cast; ring
    rw [this]
    exact Real.log_lt_log hx h2

theorem exp2_int (n : ℤ) : Ideal.exp2 (((n : ℝ) : ℝ) : EReal) = (((2 : ℝ) ^ n : ℝ) : EReal) := by
  rw [Ideal.exp2_coe]
  congr 1
  exact Real.rpow_intCast 2 n

theorem w32_one : w32 0x3F800000#32 = ((1 : ℝ) : EReal) := by
  rw [w32_pow _ 0 (by decide)]; norm_num

theorem w32_zero : w32 0x00000000#32 = 0 := by
  show Ideal.ieee 8 23 (0x00000000#32 : BitVec 32) = _
  unfold Ideal.ieee
  have a1 : (BitVec.extractLsb' 23 8 0x00000000#32).toNat = 0 := by decide
  have a2 : (BitVec.extractLsb' 0 23 0x00000000#32).toNat = 0 := by decide
  rw [a1, a2, if_neg (by norm_num), if_pos rfl]
  norm_num

/-- The ladder ends at the reference's scale and at its inverse, whatever the largest magnitude is. -/
theorem ladder_expo (a : EReal) :
    scl (seed a) = Ideal.exp2 (expo a) ∧ i9 (seed a) = Ideal.exp2 (w32 0x00000000#32 - expo a) := by
  have key : ∀ (x : ℝ) (n : ℤ), (2 : ℝ) ^ (-126 : ℤ) ≤ x → x < (2 : ℝ) ^ (128 : ℤ) →
      ⌊Real.log x / Real.log 2⌋ = n → scl x = Ideal.exp2 (((n + 1 : ℤ) : ℝ) : EReal) ∧ i9 x = Ideal.exp2 (((-(n + 1) : ℤ) : ℝ) : EReal) := by
    intro x n h1 h2 hn
    obtain ⟨n', hp, hi, h3, h4⟩ := ladder h1 h2
    have e : n' = n := by rw [← hn, floor_log h3 h4]
    subst e
    refine ⟨?_, ?_⟩
    · unfold scl
      rw [hp, w32_pow 0x40000000#32 1 (by decide), ← EReal.coe_mul, exp2_int, zpow_add₀ (by norm_num : (2 : ℝ) ≠ 0)]
    · rw [hi, exp2_int]
  unfold seed expo
  rw [select_normal, select_normal]
  by_cases h : w32 0x00800000#32 ≤ amax a ∧ amax a ≤ w32 0x7F7FFFFF#32
  · rw [if_pos h, if_pos h]
    obtain ⟨h1, h2⟩ := h
    have h3 := h2.trans_lt w32_max
    rw [w32_pow 0x00800000#32 (-126) (by decide)] at h1
    generalize amax a = y at h1 h2 h3
    induction y with
    | bot => exact absurd h1 (by simp)
    | top => exact absurd h3 (by simp)
    | coe x =>
      have h1' : (2 : ℝ) ^ (-126 : ℤ) ≤ x := by exact_mod_cast h1
      have h3' : x < (2 : ℝ) ^ (128 : ℤ) := by exact_mod_cast h3
      have hx : 0 < x := lt_of_lt_of_le (by positivity) h1'
      obtain ⟨k1, k2⟩ := key x _ h1' h3' rfl
      have hl : Real.log 2 ≠ 0 := (Real.log_pos (by norm_num)).ne'
      have e : Ideal.liftRound Int.floor (Ideal.div (Ideal.log (x : EReal)) (Ideal.log (w32 0x40000000#32))) + w32 0x3F800000#32
          = (((⌊Real.log x / Real.log 2⌋ + 1 : ℤ) : ℝ) : EReal) := by
        rw [w32_pow 0x40000000#32 1 (by decide), zpow_one, Ideal.log_coe, Ideal.log_coe, if_neg (not_le.mpr hx), if_neg (by norm_num),
          Ideal.div_coe hl, ← EReal.coe_mul, Ideal.liftRound_coe, w32_one, ← EReal.coe_add, mul_one_div]
        push_cast; rfl
      rw [e, k1, k2, w32_zero, zero_sub, ← EReal.coe_neg]
      refine ⟨rfl, ?_⟩
      push_cast; rfl
  · rw [if_neg h, if_neg h]
    have hh : w32 0x3F000000#32 = (((1 / 2 : ℝ)) : EReal) := by rw [w32_pow _ (-1) (by decide)]; norm_num
    have hf : ⌊Real.log (1 / 2) / Real.log 2⌋ = -1 := floor_log (by norm_num) (by norm_num)
    obtain ⟨k1, k2⟩ := key (1 / 2) (-1) (by norm_num) (by norm_num) hf
    rw [hh, k1, k2, w32_zero]
    norm_num

end Cert.Num

end
-- ==== Proof.Grad.lean ====
/- The averaged gradient on the extended reals. The kernel multiplies each live rank's scale by `1 / n` and adds four
   terms; the reference adds the live ranks' products and divides by `n`. For `n ≠ 0` the two are one number. -/
module

public import proofs.«01_k».proof.Proof.Scale

@[expose] public section

noncomputable section

namespace Cert.Num

open Idealize.ShloMosaic

/-- A count as a number. -/
def cnt (n : BitVec 32) : EReal := ((n.toInt : ℝ) : EReal)

/-- One rank's term in the kernel: masked codes times masked scale over `n`. -/
def kTerm (n : BitVec 32) (c s : EReal) (p : Nat) : EReal :=
  Scalar.select (IntOp.cmpi .sgt n (BitVec.ofNat 32 p)) c (w32 0x00000000#32)
    * Scalar.select (IntOp.cmpi .sgt n (BitVec.ofNat 32 p)) (s * Ideal.div (w32 0x3F800000#32) (cnt n)) (w32 0x00000000#32)

/-- The kernel's gradient. -/
def kGrad (n : BitVec 32) (c s : Fin 4 → EReal) : EReal :=
  kTerm n (c 0) (s 0) 0 + kTerm n (c 1) (s 1) 1 + kTerm n (c 2) (s 2) 2 + kTerm n (c 3) (s 3) 3

/-- The reference's gradient. -/
def rGrad (n : BitVec 32) (c s : Fin 4 → EReal) : EReal :=
  Ideal.div (∑ p : Fin 4, Scalar.select (IntOp.cmpi .slt (BitVec.ofNat 32 p.val) n) (c p * s p) (w32 0x00000000#32)) (cnt n)

/-- A term of the kernel is the reference's term times the reciprocal of `n`. -/
theorem kTerm_eq (n : BitVec 32) (r : ℝ) (h : Ideal.div (w32 0x3F800000#32) (cnt n) = (r : EReal)) (c s : EReal) (p : Nat) :
    kTerm n c s p = Scalar.select (IntOp.cmpi .slt (BitVec.ofNat 32 p) n) (c * s) (w32 0x00000000#32) * (r : EReal) := by
  unfold kTerm
  rw [h, show IntOp.cmpi .sgt n (BitVec.ofNat 32 p) = IntOp.cmpi .slt (BitVec.ofNat 32 p) n from rfl]
  unfold Scalar.select
  by_cases hc : IntOp.cmpi .slt (BitVec.ofNat 32 p) n = 1
  · rw [if_pos hc, if_pos hc, if_pos hc, mul_assoc]
  · rw [if_neg hc, if_neg hc, if_neg hc, w32_zero, zero_mul, zero_mul]

/-- The two gradients agree. -/
theorem kGrad_eq (n : BitVec 32) (hn : n ≠ 0#32) (c s : Fin 4 → EReal) : kGrad n c s = rGrad n c s := by
  have hi : n.toInt ≠ 0 := fun e => hn (BitVec.eq_of_toInt_eq (by simpa using e))
  have hr : (n.toInt : ℝ) ≠ 0 := by exact_mod_cast hi
  have hd : Ideal.div (w32 0x3F800000#32) (cnt n) = ((1 / (n.toInt : ℝ) : ℝ) : EReal) := by
    unfold cnt
    rw [Ideal.div_coe hr, w32_one, EReal.coe_one, one_mul]
  unfold kGrad rGrad
  rw [kTerm_eq n _ hd, kTerm_eq n _ hd, kTerm_eq n _ hd, kTerm_eq n _ hd, Fin.sum_univ_four]
  unfold cnt
  rw [Ideal.div_coe hr]
  by_cases hpos : 0 < n.toInt
  · have h0 : (0 : EReal) ≤ ((1 / (n.toInt : ℝ) : ℝ) : EReal) := by
      have : (0 : ℝ) ≤ 1 / (n.toInt : ℝ) := by have : (0 : ℝ) < n.toInt := by exact_mod_cast hpos
                                               positivity
      exact_mod_cast this
    rw [EReal.right_distrib_of_nonneg_of_ne_top h0 (EReal.coe_ne_top _), EReal.right_distrib_of_nonneg_of_ne_top h0 (EReal.coe_ne_top _),
      EReal.right_distrib_of_nonneg_of_ne_top h0 (EReal.coe_ne_top _)]
    rfl
  · have dead : ∀ p : Fin 4, ∀ a : EReal, Scalar.select (IntOp.cmpi .slt (BitVec.ofNat 32 p.val) n) a (w32 0x00000000#32) = 0 := by
      intro p a
      have hp : (BitVec.ofNat 32 p.val).toInt = (p.val : ℤ) := by revert p; decide
      have hs : (BitVec.ofNat 32 p.val).slt n = false := by
        rw [BitVec.slt_eq_decide, hp]; simp; omega
      unfold Scalar.select IntOp.cmpi
      rw [hs, w32_zero]; rfl
    have d0 := dead 0; have d1 := dead 1; have d2 := dead 2; have d3 := dead 3
    simp only [Fin.val_zero, Fin.val_one, Fin.val_two] at d0 d1 d2 d3 ⊢
    rw [show ((3 : Fin 4) : ℕ) = 3 from rfl] at d3 ⊢
    rw [d0, d1, d2, d3]
    simp

/-- The first moment, the second moment, the update and the weights after the step, one entry each. -/
def mom (m g : EReal) : EReal := w32 0x3F666666#32 * m + w32 0x3DCCCCCD#32 * g
def vel (v g : EReal) : EReal := w32 0x3F733333#32 * v + w32 0x3D4CCCCD#32 * (g * g)
def updt (m v p : EReal) : EReal :=
  w32 0x3C23D70A#32 * (Ideal.div (Ideal.div m (w32 0x3F60E05A#32)) (Ideal.sqrt (Ideal.div v (w32 0x3F243A44#32)) + w32 0x322BCC77#32)
    + w32 0x3DCCCCCD#32 * p)
def nxt (m v p g : EReal) : EReal := p - updt (mom m g) (vel v g) p

/-- The largest magnitude of a row of 128. -/
def rowMax (f : Fin 128 → EReal) : EReal := Finset.univ.fold max (w32 0xFF800000#32) fun l => max (f l) (-(f l))

/-- A code from a weight and the inverse scale. -/
def code (p i : EReal) : EReal := min (w32 0x43E00000#32) (max (w32 0xC3E00000#32) (p * i))

end Cert.Num

end
-- ==== Proof.Setup.lean ====
/- What the kernel's body leaves in its two scratch buffers before the row loop: each rank's masked scales over the
   count, rows down and blocks across, and each rank's packed keep mask. -/
module

public import proofs.«01_k».proof.Proof.Trip
public import proofs.«01_k».proof.Proof.Grad
public import proofs.«01_k».proof.Proof.Gen.KernelIdeal.Frame.RunA
public import Idealize.ShloMosaic.Lib.Pointwise
public import Idealize.ShloMosaic.Lib.BitcastFour
public import Idealize.ShloMosaic.Lib.Pipeline.Value

@[expose] public section

set_option maxRecDepth 100000
set_option maxHeartbeats 1000000

noncomputable section

namespace Cert.KernelIdeal.Block

open Cert.KernelIdeal Cert.KernelIdeal.Gen Idealize.ShloMosaic Idealize.ShloMosaic.TcCoe Idealize.ShloMosaic.Tactic Idealize.SL.Sem

section
variable {F : FTy → Type} [FloatOps F]

theorem inbS (p : Fin 4) : ∀ a, (![p.val, 0, 0] : Fin 3 → Nat) a + S1x40x128.size a ≤ S4x40x128.size a := by
  have hp := p.isLt
  intro a; match a with
  | ⟨0, _⟩ => show p.val + 1 ≤ 4; omega
  | ⟨1, _⟩ => show 0 + 40 ≤ 40; omega
  | ⟨2, _⟩ => show 0 + 128 ≤ 128; omega

theorem inbT (p : Fin 4) : ∀ a, (![p.val, 0, 0] : Fin 3 → Nat) a + S1x128x128.size a ≤ S4x128x128.size a := by
  have hp := p.isLt
  intro a; match a with
  | ⟨0, _⟩ => show p.val + 1 ≤ 4; omega
  | ⟨1, _⟩ => show 0 + 128 ≤ 128; omega
  | ⟨2, _⟩ => show 0 + 128 ≤ 128; omega

theorem inbU (p : Fin 4) : ∀ a, (![p.val, 0, 0] : Fin 3 → Nat) a + S1x32x128.size a ≤ S4x32x128.size a := by
  have hp := p.isLt
  intro a; match a with
  | ⟨0, _⟩ => show p.val + 1 ≤ 4; omega
  | ⟨1, _⟩ => show 0 + 32 ≤ 32; omega
  | ⟨2, _⟩ => show 0 + 128 ≤ 128; omega

/-- Whether rank `p` is live, for every row (in every lane). -/
def live (x2 : Vec F S1x1x128 .i32) (p : Fin 4) : IVec S128x128 1 :=
  cmpi .sgt (k0_pay1667 x2) (broadcast S128x128 (BitVec.ofNat 32 p.val))

/-- Rank `p`'s scales, blocks down and rows across. -/
def plane (x1 : Vec F S4x40x128 .f32) (p : Fin 4) : FVec F S40x128 .f32 :=
  shapeCast S40x128 (View.ld x1 (Rect.unit (s := S4x40x128) ![p.val, 0, 0] S1x40x128.size (inbS p)) : FVec F S1x40x128 .f32) shapeCasts_S1x40x128_S40x128

/-- Rank `p`'s scales, rows down and blocks across, zero past the last block. -/
def rows (x1 : Vec F S4x40x128 .f32) (p : Fin 4) : FVec F S128x128 .f32 :=
  transpose S128x128 [1, 0] (concatenate S128x128 0 [⟨S40x128, plane x1 p⟩,
        ⟨S88x128, (broadcast S88x128 (Scalar.ofBits .f32 0x00000000#32 : F .f32) : FVec F S88x128 .f32)⟩]
      concatenates_S40x128_S88x128_S128x128_d0 : FVec F S128x128 .f32) transposes_S128x128_p1_0_S128x128

/-- Rank `p`'s masked scales over the count. -/
def scr (x1 : Vec F S4x40x128 .f32) (x2 : Vec F S1x1x128 .i32) (p : Fin 4) : FVec F S1x128x128 .f32 :=
  shapeCast S1x128x128 (select (live x2 p) (mulf (rows x1 p) (k0_pay1668 x2))
    (broadcast S128x128 (Scalar.ofBits .f32 0x00000000#32 : F .f32)) : FVec F S128x128 .f32) shapeCasts_S128x128_S1x128x128

/-- Rank `p`'s packed keep mask. -/
def msk (x2 : Vec F S1x1x128 .i32) (p : Fin 4) : IVec S1x32x128 32 :=
  shapeCast S1x32x128 (bitcast S32x128 32 (trunci 8 (select (live x2 p) (broadcast S128x128 4294967295#32) (broadcast S128x128 0#32) : IVec S128x128 32) natLt_8_32 : IVec S128x128 8)
    bitcasts_S128x128_w8_S32x128_w32 : IVec S32x128 32) shapeCasts_S32x128_S1x32x128

variable (c : Dev nD) (arg2 : Memref sig .tc .vmem S4x40x128 .f32) (harg2 : arg2.IsWhole) (arg3 : Memref sig .tc .vmem S1x1x128 .i32) (harg3 : arg3.IsWhole)
  (x1 : Vec F S4x40x128 .f32) (x2 : Vec F S1x1x128 .i32)

theorem whole2 : View.readAt (Elt F) arg3.view (Rect.unit (s := S1x1x128) ![0, 0, 0] S1x1x128.size inb_S1x1x128_S1x1x128_0_0_0).toLoadRect (harg3.unread x2) = x2 := by
  rw [View.readAt_eq_ld, Memref.IsWhole.read_unread]
  exact View.ld_unit_zero (S := S1x1x128) (by decide) _ x2

/-- The scale scratch's pieces. -/
theorem pieces13 : kernelRun0_A.sl.HS0_4 c arg2 harg2 arg3 harg3 x1 x2
    = List.ofFn fun p : Fin 4 => (⟨Rect.unit (s := S4x128x128) ![p.rev.val, 0, 0] S1x128x128.size (inbT p.rev), scr x1 x2 p.rev⟩ : View.Piece (Elt F) S4x128x128 .f32) := by
  unfold kernelRun0_A.sl.HS0_4 kernelRun0_A.sl.r kernelRun0_A.sl.r_1 kernelRun0_A.sl.r_2
  rw [whole2, View.readAt_eq_ld, View.readAt_eq_ld, View.readAt_eq_ld, View.readAt_eq_ld, Memref.IsWhole.read_unread]
  rfl

/-- The mask scratch's pieces. -/
theorem pieces14 : kernelRun0_A.sl.HS1_4 c arg3 harg3 x2
    = List.ofFn fun p : Fin 4 => (⟨Rect.unit (s := S4x32x128) ![p.rev.val, 0, 0] S1x32x128.size (inbU p.rev), msk x2 p.rev⟩ : View.Piece (Elt F) S4x32x128 .i32) := by
  unfold kernelRun0_A.sl.HS1_4 kernelRun0_A.sl.r_3 kernelRun0_A.sl.r
  rw [whole2]
  rfl

/-- The scale scratch as the loop finds it. -/
def s13 : Vec F S4x128x128 .f32 := fun y => scr x1 x2 (y 0) (ix3 0 (y 1) (y 2))

/-- The mask scratch as the loop finds it. -/
def s14 : Vec F S4x32x128 .i32 := fun y => msk x2 (y 0) (ix3 0 (y 1) (y 2))

/-- Pieces that are the planes of one rank-3 buffer, last first, leave the buffer they are the planes of. -/
theorem planes {n w : Nat} {e : EltTy} (m : Memref sig .tc .vmem ⟨3, ![4, n, w]⟩ e)
    (inb : ∀ p : Fin 4, ∀ a, (![p.val, 0, 0] : Fin 3 → Nat) a + (![1, n, w] : Fin 3 → Nat) a ≤ (⟨3, ![4, n, w]⟩ : Shape).size a)
    (f : Fin 4 → (⟨3, ![1, n, w]⟩ : Shape).Idx → Elt F e) :
    m.view.read (Elt F) (m.view.writes (Elt F) m.view.junk
      (List.ofFn fun p : Fin 4 => (⟨Rect.unit (s := ⟨3, ![4, n, w]⟩) ![p.rev.val, 0, 0] ![1, n, w] (inb p.rev), f p.rev⟩ : View.Piece (Elt F) ⟨3, ![4, n, w]⟩ e)))
    = fun y => f (y 0) (ix3 0 (y 1) (y 2)) := by
  funext y
  have hc : ∃ p ∈ (List.ofFn fun p : Fin 4 => (⟨Rect.unit (s := ⟨3, ![4, n, w]⟩) ![p.rev.val, 0, 0] ![1, n, w] (inb p.rev), f p.rev⟩ : View.Piece (Elt F) ⟨3, ![4, n, w]⟩ e)), y ∈ p.1.set := by
    refine ⟨_, List.mem_ofFn.mpr ⟨(y 0 : Fin 4).rev, rfl⟩, (Rect.mem_set_unit (inb := inb _)).mpr fun a => ?_⟩
    have h0 : (y 0).val < 4 := (y 0).isLt
    have h1 : (y 1).val < n := (y 1).isLt
    have h2 : (y 2).val < w := (y 2).isLt
    have hr : (Fin.rev (Fin.rev (y 0 : Fin 4))) = y 0 := Fin.rev_rev _
    match a with
    | ⟨0, _⟩ => show (Fin.rev (Fin.rev (y 0 : Fin 4))).val ≤ (y 0).val ∧ (y 0).val < (Fin.rev (Fin.rev (y 0 : Fin 4))).val + 1
                rw [hr]; omega
    | ⟨1, _⟩ => show 0 ≤ (y 1).val ∧ (y 1).val < 0 + n; omega
    | ⟨2, _⟩ => show 0 ≤ (y 2).val ∧ (y 2).val < 0 + w; omega
  rw [View.read_writes_apply_eq_canon _ _ _ _ hc]
  refine View.canon_apply_of_pieces (fun y => f (y 0) (ix3 0 (y 1) (y 2))) _ ?_ y hc
  intro p hp
  obtain ⟨k, rfl⟩ := List.mem_ofFn.mp hp
  intro x
  have hx : (x 0).val < 1 := (x 0).isLt
  have e0 : (Rect.unit (s := ⟨3, ![4, n, w]⟩) ![k.rev.val, 0, 0] ![1, n, w] (inb k.rev)).emb x 0 = k.rev := Fin.ext (by
    show k.rev.val + 1 * (x 0).val = k.rev.val; omega)
  have e1 : ix3 0 ((Rect.unit (s := ⟨3, ![4, n, w]⟩) ![k.rev.val, 0, 0] ![1, n, w] (inb k.rev)).emb x 1)
      ((Rect.unit (s := ⟨3, ![4, n, w]⟩) ![k.rev.val, 0, 0] ![1, n, w] (inb k.rev)).emb x 2) = x := by
    funext a; match a with
    | ⟨0, _⟩ => exact Fin.ext (by show 0 = (x 0).val; omega)
    | ⟨1, _⟩ => exact Fin.ext (by show 0 + 1 * (x 1).val = (x 1).val; omega)
    | ⟨2, _⟩ => exact Fin.ext (by show 0 + 1 * (x 2).val = (x 2).val; omega)
  exact (congrArg₂ f e0 e1).symm

theorem read13 (arg13 : Memref sig .tc .vmem S4x128x128 .f32) :
    arg13.view.read (Elt F) (arg13.view.writes (Elt F) arg13.view.junk (kernelRun0_A.sl.HS0_4 c arg2 harg2 arg3 harg3 x1 x2)) = s13 x1 x2 := by
  rw [pieces13]
  exact planes arg13 inbT (scr x1 x2)

theorem read14 (arg14 : Memref sig .tc .vmem S4x32x128 .i32) :
    arg14.view.read (Elt F) (arg14.view.writes (Elt F) arg14.view.junk (kernelRun0_A.sl.HS1_4 (F := F) c arg3 harg3 x2)) = s14 x2 := by
  rw [pieces14]
  exact planes arg14 inbU (msk x2)

/-- What the row loop reads, from the point's input blocks. -/
def B0 (x0 : Vec F S4x128x5120 .fp8e5m2) (x1 : Vec F S4x40x128 .f32) (x2 : Vec F S1x1x128 .i32) (x3 x4 x5 : Vec F S128x5120 .f32) : Bufs F :=
  ⟨x0, x3, x4, x5, s13 x1 x2, s14 x2⟩

end

/-! ## Read at an index, on the extended reals -/

section
variable (x1 : Vec Ideal S4x40x128 .f32) (x2 : Vec Ideal S1x1x128 .i32)

theorem live_apply (p : Fin 4) (r l : Fin 128) :
    live (F := Ideal) x2 p (ix2 r l) = IntOp.cmpi .sgt (x2 (ix3 0 0 r)) (BitVec.ofNat 32 p.val) := by
  pointwise [live, k0_pay1667]

omit x2 in
theorem ld_plane (p : Fin 4) (b : Fin 40) (r : Fin 128) :
    View.ld x1 (Rect.unit (s := S4x40x128) ![p.val, 0, 0] S1x40x128.size (inbS p)) (ix3 (0 : Fin 1) b r) = x1 (ix3 p b r) := by
  refine congrArg x1 (funext fun a => Fin.ext ?_)
  match a with
  | ⟨0, _⟩ => exact Nat.add_zero _
  | ⟨1, _⟩ => exact (Nat.zero_add _).trans (Nat.one_mul _)
  | ⟨2, _⟩ => exact (Nat.zero_add _).trans (Nat.one_mul _)

theorem drop_apply (v : FVec Ideal S1x40x128 .f32) (b : Fin 40) (r : Fin 128) :
    (shapeCast S40x128 v shapeCasts_S1x40x128_S40x128 : FVec Ideal S40x128 .f32) (ix2 b r) = v (ix3 0 b r) := by
  pointwise

theorem plane_apply (p : Fin 4) (b : Fin 40) (r : Fin 128) : plane (F := Ideal) x1 p (ix2 b r) = x1 (ix3 p b r) :=
  (drop_apply _ b r).trans (ld_plane x1 p b r)

theorem rows_apply (p : Fin 4) (r : Fin 128) (b : Fin 40) (l : Fin 128) (hl : l.val = b.val) : rows (F := Ideal) x1 p (ix2 r l) = x1 (ix3 p b r) := by
  rw [← plane_apply x1 p b r]
  unfold rows
  generalize plane (F := Ideal) x1 p = v
  have h : l.val < 40 := by have := b.isLt; omega
  pointwise
  rw [dif_pos h]
  exact congrArg (fun q => v (ix2 q r)) (Fin.ext hl)

theorem s13_apply (p : Fin 4) (r : Fin 128) (b : Fin 40) (l : Fin 128) (hl : l.val = b.val) :
    s13 (F := Ideal) x1 x2 (ix3 p r l) = Scalar.select (IntOp.cmpi .sgt (x2 (ix3 0 0 r)) (BitVec.ofNat 32 p.val))
      (x1 (ix3 p b r) * Ideal.div (Num.w32 0x3F800000#32) (Num.cnt (x2 (ix3 0 0 r)))) (Num.w32 0x00000000#32) := by
  show scr x1 x2 p (ix3 0 r l) = _
  rw [← rows_apply x1 p r b l hl, ← live_apply x2 p r l]
  unfold scr
  generalize rows (F := Ideal) x1 p = v
  generalize live (F := Ideal) x2 p = u
  pointwise [k0_pay1668, k0_pay1667]
  rfl

/-- A word's byte, unpacked: byte row `r` of a packed tile is byte `r % 4` of word row `r / 4`. -/
theorem unpack_getLsbD (v : IVec S8x128 32) (r : Fin 32) (l : Fin 128) (q : Nat) (hq : q < 8) :
    (bitcast S32x128 8 v bitcasts_S8x128_w32_S32x128_w8 (ix2 r l)).getLsbD q
      = (v (ix2 ⟨r.val / 4, by have := r.isLt; omega⟩ l)).getLsbD (8 * (r.val % 4) + q) := by
  have hrow : S32x128.row (ix2 r l) = r.val := rfl
  rw [bitcast_getLsbD v _ _ q hq (by decide)]
  have e2 : (S32x128.row (ix2 r l) * 8 + q) % 32 = 8 * (r.val % 4) + q := by rw [hrow]; omega
  rw [e2]
  congr 2
  funext a
  match a with
  | ⟨0, _⟩ => exact Fin.ext ((bitcasts_S8x128_w32_S32x128_w8.srcIdx_row _ _ _ ⟨0, Nat.zero_lt_two⟩ rfl).trans (by rw [hrow]; show _ = r.val / 4; omega))
  | ⟨1, _⟩ => exact Fin.ext (bitcasts_S8x128_w32_S32x128_w8.srcIdx_other _ _ _ ⟨1, Nat.one_lt_two⟩ (by show ¬ 1 + 2 = 2; omega))

/-- Packed and unpacked again, a mask byte is the mask byte: word rows `w` to `w + 7` hold byte rows `4 w` to `4 w + 31`. -/
theorem unpack_pack (x : IVec S128x128 8) (v : IVec S8x128 32) (w : Nat) (hw : w + 8 ≤ 32)
    (hv : ∀ (a : Fin 8) (l : Fin 128), v (ix2 a l) = bitcast S32x128 32 x bitcasts_S128x128_w8_S32x128_w32 (ix2 ⟨w + a.val, by have := a.isLt; omega⟩ l))
    (r : Fin 32) (l : Fin 128) :
    bitcast S32x128 8 v bitcasts_S8x128_w32_S32x128_w8 (ix2 r l) = x (ix2 ⟨4 * w + r.val, by have := r.isLt; omega⟩ l) := by
  apply BitVec.eq_of_getLsbD_eq
  intro q hq
  rw [unpack_getLsbD v r l q hq, hv]
  refine (bitcast_8_32_getLsbD_ix2 x bitcasts_S128x128_w8_S32x128_w32 _ l (8 * (r.val % 4) + q) (by omega) ⟨4 * w + r.val, by have := r.isLt; omega⟩
    (by show 4 * w + r.val = 4 * (w + r.val / 4) + (8 * (r.val % 4) + q) / 8; omega)).trans ?_
  have : (8 * (r.val % 4) + q) % 8 = q := by omega
  rw [this]
  rfl

/-- The byte of a mask is not zero exactly where its rank is live. -/
theorem byte_ne (u : BitVec 1) :
    IntOp.cmpi .ne (BitVec.truncate 8 (Scalar.select u 4294967295#32 0#32)) 0#8 = u := by
  revert u; decide

end

end Cert.KernelIdeal.Block

end
-- ==== Proof.Point.lean ====
/- The block arithmetic of `Block.lean` read at one entry, on the extended reals: every entry is the scalar arithmetic
   of `Grad.lean` and `Scale.lean` at the entry's row and column of the point's blocks. -/
module

public import proofs.«01_k».proof.Proof.Setup

@[expose] public section

set_option maxRecDepth 100000
set_option maxHeartbeats 1000000

noncomputable section

namespace Cert.KernelIdeal.Block

open Cert.KernelIdeal Cert.KernelIdeal.Gen Idealize.ShloMosaic Idealize.ShloMosaic.TcCoe Idealize.ShloMosaic.Tactic Idealize.SL.Sem

/-- The point's row of a block's row. -/
def row (k : Fin k0_t1_loop.trips) (r : Fin 32) : Fin 128 := ⟨32 * k.val + r.val, by have := k_lt k; have := r.isLt; omega⟩

/-- The point's column of a block's lane. -/
def col (b : Fin 40) (l : Fin 128) : Fin 5120 := ⟨128 * b.val + l.val, by have := b.isLt; have := l.isLt; omega⟩

theorem rd_apply (k : Fin k0_t1_loop.trips) (b : Fin 40) (x : Vec Ideal S128x5120 .f32) (r : Fin 32) (l : Fin 128) :
    rd k b x (ix2 r l) = x (ix2 (row k r) (col b l)) := by
  refine congrArg x (funext fun a => Fin.ext ?_)
  match a with
  | ⟨0, _⟩ => exact (congrArg₂ (· + ·) (R_eq k) (Nat.one_mul r.val) : R k + 1 * r.val = 32 * k.val + r.val)
  | ⟨1, _⟩ => exact congrArg (128 * b.val + ·) (Nat.one_mul l.val)

theorem term_apply (w : Vec Ideal S1x8x128 .i32) (c : Vec Ideal S1x32x128 .fp8e5m2) (s : Vec Ideal S1x32x1 .f32) (r : Fin 32) (l : Fin 128) :
    term w c s (ix2 r l) = Scalar.select (keep (F := Ideal) w (ix2 r l)) (c (ix3 0 r l)) (Num.w32 0x00000000#32) * s (ix3 0 r 0) := by
  unfold term
  generalize keep (F := Ideal) w = u
  pointwise

theorem dropW (w : IVec S1x8x128 32) (a : Fin 8) (l : Fin 128) :
    (shapeCast S8x128 w shapeCasts_S1x8x128_S8x128 : IVec S8x128 32) (ix2 a l) = w (ix3 0 a l) := by
  pointwise

theorem addW (w : IVec S32x128 32) (a : Fin 32) (l : Fin 128) :
    (shapeCast S1x32x128 w shapeCasts_S32x128_S1x32x128 : IVec S1x32x128 32) (ix3 0 a l) = w (ix2 a l) := by
  pointwise

theorem keep_apply (x2 : Vec Ideal S1x1x128 .i32) (k : Fin k0_t1_loop.trips) (p : Fin 4) (r : Fin 32) (l : Fin 128) :
    keep (F := Ideal) (fun j => s14 (F := Ideal) x2 ((Rect.unit (s := S4x32x128) ![p.val, W k, 0] S1x8x128.size (inb14 k p)).toLoadRect.idx j)) (ix2 r l)
      = IntOp.cmpi .sgt (x2 (ix3 0 0 (row k r))) (BitVec.ofNat 32 p.val) := by
  have hk := k_lt k
  rw [← live_apply x2 p (row k r) l, ← byte_ne (live (F := Ideal) x2 p (ix2 (row k r) l))]
  refine congrArg (fun z : BitVec 8 => IntOp.cmpi .ne z 0#8) ?_
  refine (unpack_pack (trunci 8 (select (live (F := Ideal) x2 p) (broadcast S128x128 4294967295#32) (broadcast S128x128 0#32) : IVec S128x128 32) natLt_8_32)
    _ (8 * k.val) (by omega) (fun a l => ?_) r l).trans ?_
  · rw [dropW]
    have e : (Rect.unit (s := S4x32x128) ![p.val, W k, 0] S1x8x128.size (inb14 k p)).toLoadRect.idx (ix3 (0 : Fin 1) a l)
        = ix3 p ⟨8 * k.val + a.val, by have := a.isLt; omega⟩ l := by
      refine funext fun d => Fin.ext ?_
      match d with
      | ⟨0, _⟩ => exact Nat.add_zero _
      | ⟨1, _⟩ => exact (congrArg₂ (· + ·) (W_eq k) (Nat.one_mul a.val) : W k + 1 * a.val = 8 * k.val + a.val)
      | ⟨2, _⟩ => exact (Nat.zero_add _).trans (Nat.one_mul _)
    rw [e]
    exact addW _ _ l
  · show BitVec.truncate 8 (Scalar.select (live (F := Ideal) x2 p (ix2 _ l)) _ _) = _
    have e : (⟨4 * (8 * k.val) + r.val, by have := r.isLt; omega⟩ : Fin 128) = row k r := Fin.ext (by show 4 * (8 * k.val) + r.val = 32 * k.val + r.val; omega)
    rw [e]
    rfl

section
variable (x0 : Vec Ideal S4x128x5120 .fp8e5m2) (x1 : Vec Ideal S4x40x128 .f32) (x2 : Vec Ideal S1x1x128 .i32) (x3 x4 x5 : Vec Ideal S128x5120 .f32)
  (k : Fin k0_t1_loop.trips) (b : Fin 40)

theorem trm_apply (p : Fin 4) (r : Fin 32) (l : Fin 128) :
    trm (B0 x0 x1 x2 x3 x4 x5) k b p (ix2 r l)
      = Num.kTerm (x2 (ix3 0 0 (row k r))) (x0 (ix3 p (row k r) (col b l))) (x1 (ix3 p b (row k r))) p.val := by
  unfold trm
  rw [term_apply]
  have e1 : (Rect.unit (s := S4x128x5120) ![p.val, R k, 128 * b.val] S1x32x128.size (inb1 k p b)).toLoadRect.idx (ix3 (0 : Fin 1) r l)
      = ix3 p (row k r) (col b l) := by
    refine funext fun d => Fin.ext ?_
    match d with
    | ⟨0, _⟩ => exact Nat.add_zero _
    | ⟨1, _⟩ => exact (congrArg₂ (· + ·) (R_eq k) (Nat.one_mul r.val) : R k + 1 * r.val = 32 * k.val + r.val)
    | ⟨2, _⟩ => exact congrArg (128 * b.val + ·) (Nat.one_mul l.val)
  have e2 : (Rect.unit (s := S4x128x128) ![p.val, R k, b.val] S1x32x1.size (inb13 k p b)).toLoadRect.idx (ix3 (0 : Fin 1) r (0 : Fin 1))
      = ix3 p (row k r) (⟨b.val, by have := b.isLt; omega⟩ : Fin 128) := by
    refine funext fun d => Fin.ext ?_
    match d with
    | ⟨0, _⟩ => exact Nat.add_zero _
    | ⟨1, _⟩ => exact (congrArg₂ (· + ·) (R_eq k) (Nat.one_mul r.val) : R k + 1 * r.val = 32 * k.val + r.val)
    | ⟨2, _⟩ => exact Nat.add_zero _
  have e3 := keep_apply x2 k p r l
  unfold Num.kTerm
  refine congrArg₂ (· * ·) ?_ ?_
  · exact congrArg₂ (fun u v => Scalar.select u v (Num.w32 0x00000000#32)) e3 (congrArg x0 e1)
  · exact (congrArg (s13 (F := Ideal) x1 x2) e2).trans (s13_apply x1 x2 p (row k r) b _ rfl)

/-- The gradient of an entry. -/
def g (rw_ : Fin 128) (b : Fin 40) (l : Fin 128) : EReal :=
  Num.kGrad (x2 (ix3 0 0 rw_)) (fun p => x0 (ix3 p rw_ (col b l))) (fun p => x1 (ix3 p b rw_))

theorem grad_apply (r : Fin 32) (l : Fin 128) :
    grad (B0 x0 x1 x2 x3 x4 x5) k b (ix2 r l) = g x0 x1 x2 (row k r) b l := by
  have h := fun p => trm_apply x0 x1 x2 x3 x4 x5 k b p r l
  exact congrArg₂ (· + ·) (congrArg₂ (· + ·) (congrArg₂ (· + ·) (h 0) (h 1)) (h 2)) (h 3)

theorem newM_apply (r : Fin 32) (l : Fin 128) :
    newM (B0 x0 x1 x2 x3 x4 x5) k b (ix2 r l) = Num.mom (x4 (ix2 (row k r) (col b l))) (g x0 x1 x2 (row k r) b l) :=
  congrArg₂ Num.mom (rd_apply k b x4 r l) (grad_apply x0 x1 x2 x3 x4 x5 k b r l)

theorem newV_apply (r : Fin 32) (l : Fin 128) :
    newV (B0 x0 x1 x2 x3 x4 x5) k b (ix2 r l) = Num.vel (x5 (ix2 (row k r) (col b l))) (g x0 x1 x2 (row k r) b l) :=
  congrArg₂ Num.vel (rd_apply k b x5 r l) (grad_apply x0 x1 x2 x3 x4 x5 k b r l)

/-- The update of an entry. -/
def u (q : Fin 128) (b : Fin 40) (l : Fin 128) : EReal :=
  Num.updt (Num.mom (x4 (ix2 q (col b l))) (g x0 x1 x2 q b l)) (Num.vel (x5 (ix2 q (col b l))) (g x0 x1 x2 q b l)) (x3 (ix2 q (col b l)))

theorem upd_apply (r : Fin 32) (l : Fin 128) :
    upd (B0 x0 x1 x2 x3 x4 x5) k b (ix2 r l) = u x0 x1 x2 x3 x4 x5 (row k r) b l := by
  have e1 := newM_apply x0 x1 x2 x3 x4 x5 k b r l
  have e2 := newV_apply x0 x1 x2 x3 x4 x5 k b r l
  have e3 := rd_apply k b x3 r l
  unfold u
  rw [← e1, ← e2, ← e3]
  rfl

/-- The new weight of an entry. -/
def w (q : Fin 128) (b : Fin 40) (l : Fin 128) : EReal := x3 (ix2 q (col b l)) - u x0 x1 x2 x3 x4 x5 q b l

theorem newP_apply (r : Fin 32) (l : Fin 128) :
    newP (B0 x0 x1 x2 x3 x4 x5) k b (ix2 r l) = w x0 x1 x2 x3 x4 x5 (row k r) b l :=
  congrArg₂ (· - ·) (rd_apply k b x3 r l) (upd_apply x0 x1 x2 x3 x4 x5 k b r l)
end

theorem rowMax_apply (v : FVec Ideal S32x128 .f32) (r : Fin 32) (l : Fin 128) :
    rowMax v (ix2 r l) = Num.rowMax fun l => v (ix2 r l) := by
  pointwise [rowMax]
  rfl

section
variable (x p i : FVec Ideal S32x128 .f32) (j : S32x128.Idx)
theorem up_apply (q : BitVec 32) : up q x p j = Num.up q (x j) (p j) := rfl
theorem dn_apply (q r : BitVec 32) : dn q r x p i j = Num.dn q r (x j) (p j) (i j) := rfl
theorem p0_apply : (p0 : FVec Ideal S32x128 .f32) j = Num.p0 := rfl
theorem p1_apply : p1 x j = Num.p1 (x j) := by rw [p1, up_apply, p0_apply, Num.p1]
theorem p2_apply : p2 x j = Num.p2 (x j) := by rw [p2, up_apply, p1_apply, Num.p2]
theorem p3_apply : p3 x j = Num.p3 (x j) := by rw [p3, up_apply, p2_apply, Num.p3]
theorem p4_apply : p4 x j = Num.p4 (x j) := by rw [p4, up_apply, p3_apply, Num.p4]
theorem p5_apply : p5 x j = Num.p5 (x j) := by rw [p5, up_apply, p4_apply, Num.p5]
theorem p6_apply : p6 x j = Num.p6 (x j) := by rw [p6, up_apply, p5_apply, Num.p6]
theorem p7_apply : p7 x j = Num.p7 (x j) := by rw [p7, up_apply, p6_apply, Num.p7]
theorem p8_apply : p8 x j = Num.p8 (x j) := by rw [p8, up_apply, p7_apply, Num.p8]
theorem p9_apply : p9 x j = Num.p9 (x j) := by rw [p9, up_apply, p8_apply, Num.p9]
theorem i1_apply : i1 x j = Num.i1 (x j) := by rw [i1, dn_apply, p0_apply, Num.i1]; rfl
theorem i2_apply : i2 x j = Num.i2 (x j) := by rw [i2, dn_apply, p1_apply, i1_apply, Num.i2]
theorem i3_apply : i3 x j = Num.i3 (x j) := by rw [i3, dn_apply, p2_apply, i2_apply, Num.i3]
theorem i4_apply : i4 x j = Num.i4 (x j) := by rw [i4, dn_apply, p3_apply, i3_apply, Num.i4]
theorem i5_apply : i5 x j = Num.i5 (x j) := by rw [i5, dn_apply, p4_apply, i4_apply, Num.i5]
theorem i6_apply : i6 x j = Num.i6 (x j) := by rw [i6, dn_apply, p5_apply, i5_apply, Num.i6]
theorem i7_apply : i7 x j = Num.i7 (x j) := by rw [i7, dn_apply, p6_apply, i6_apply, Num.i7]
theorem i8_apply : i8 x j = Num.i8 (x j) := by rw [i8, dn_apply, p7_apply, i7_apply, Num.i8]
theorem i9_apply : i9 x j = Num.i9 (x j) := by rw [i9, dn_apply, p8_apply, i8_apply, Num.i9]
theorem scl_apply : scl x j = Num.scl (x j) := congrArg (· * Num.w32 0x40000000#32) (p9_apply x j)
theorem seed_apply : seed x j = Num.seed (x j) := rfl
end

section
variable (x0 : Vec Ideal S4x128x5120 .fp8e5m2) (x1 : Vec Ideal S4x40x128 .f32) (x2 : Vec Ideal S1x1x128 .i32) (x3 x4 x5 : Vec Ideal S128x5120 .f32)
  (k : Fin k0_t1_loop.trips) (b : Fin 40)

/-- The reference's exponent for a block's row. -/
def ex (q : Fin 128) (b : Fin 40) : EReal := Num.expo (Num.rowMax fun l => w x0 x1 x2 x3 x4 x5 q b l)

theorem sd_apply (r : Fin 32) (l : Fin 128) :
    sd (B0 x0 x1 x2 x3 x4 x5) k b (ix2 r l) = Num.seed (Num.rowMax fun l => w x0 x1 x2 x3 x4 x5 (row k r) b l) := by
  unfold sd
  rw [seed_apply, rowMax_apply]
  exact congrArg (fun f => Num.seed (Num.rowMax f)) (funext fun l => newP_apply x0 x1 x2 x3 x4 x5 k b r l)

theorem scale_apply (r : Fin 32) (l : Fin 128) :
    scale (B0 x0 x1 x2 x3 x4 x5) k b (ix2 r l) = Ideal.exp2 (ex x0 x1 x2 x3 x4 x5 (row k r) b) := by
  unfold scale
  rw [scl_apply, sd_apply]
  exact (Num.ladder_expo _).1

theorem codes_apply (r : Fin 32) (l : Fin 128) :
    codes (B0 x0 x1 x2 x3 x4 x5) k b (ix2 r l) = Num.code (w x0 x1 x2 x3 x4 x5 (row k r) b l)
      (Ideal.exp2 (Num.w32 0x00000000#32 - ex x0 x1 x2 x3 x4 x5 (row k r) b)) := by
  have h : i9 (sd (B0 x0 x1 x2 x3 x4 x5) k b) (ix2 r l) = Ideal.exp2 (Num.w32 0x00000000#32 - ex x0 x1 x2 x3 x4 x5 (row k r) b) := by
    rw [i9_apply, sd_apply]
    exact (Num.ladder_expo _).2
  exact congrArg₂ Num.code (newP_apply x0 x1 x2 x3 x4 x5 k b r l) h

/-- After `n` blocks, lane `l < n` holds block `l`'s scale. -/
theorem lanes_apply (r : Fin 32) (l : Fin 128) : (n : Nat) → (h : n ≤ 40) → (hl : l.val < n) →
    lanes (B0 x0 x1 x2 x3 x4 x5) k (iota .tc S32x128 32 [1] iota_S32x128_d1_w32) n h (ix2 r l)
      = Ideal.exp2 (ex x0 x1 x2 x3 x4 x5 (row k r) ⟨l.val, Nat.lt_of_lt_of_le hl h⟩)
  | 0, _, hl => absurd hl (Nat.not_lt_zero _)
  | n + 1, h, hl => by
    have hi : (iota .tc S32x128 32 [1] iota_S32x128_d1_w32 : IVec S32x128 32) (ix2 r l) = BitVec.ofNat 32 l.val := by
      pointwise
    have e : lanes (B0 x0 x1 x2 x3 x4 x5) k (iota .tc S32x128 32 [1] iota_S32x128_d1_w32) (n + 1) h (ix2 r l)
        = Scalar.select (IntOp.cmpi .eq (BitVec.ofNat 32 l.val) (BitVec.ofNat 32 n)) (scale (B0 x0 x1 x2 x3 x4 x5) k ⟨n, h⟩ (ix2 r l))
          (lanes (B0 x0 x1 x2 x3 x4 x5) k (iota .tc S32x128 32 [1] iota_S32x128_d1_w32) n (Nat.le_of_succ_le h) (ix2 r l)) := by
      rw [← hi]; rfl
    rw [e]
    by_cases hn : l.val = n
    · subst hn
      unfold Scalar.select IntOp.cmpi
      rw [if_pos (by simp), scale_apply]
    · have hne : (BitVec.ofNat 32 l.val == BitVec.ofNat 32 n) = false := by
        rw [beq_eq_false_iff_ne]
        intro he
        have := congrArg BitVec.toNat he
        rw [BitVec.toNat_ofNat, BitVec.toNat_ofNat, Nat.mod_eq_of_lt (by omega), Nat.mod_eq_of_lt (by omega)] at this
        exact hn this
      unfold Scalar.select IntOp.cmpi
      rw [if_neg (by rw [hne]; exact (by decide : ¬ BitVec.ofBool false = 1))]
      exact lanes_apply r l n _ (by omega)

end

end Cert.KernelIdeal.Block

end
-- ==== Proof.Body.lean ====
/- One grid point's body, whole: what it leaves in each of its six output blocks, entry by entry, as the scalar
   arithmetic at the entry's row and column of the point's input blocks. -/
module

public import proofs.«01_k».proof.Proof.Point
public import proofs.«01_k».proof.Proof.Gen.KernelIdeal.Frame

@[expose] public section

set_option maxRecDepth 100000
set_option maxHeartbeats 4000000

noncomputable section

namespace Cert.KernelIdeal.Block

open Cert.KernelIdeal Cert.KernelIdeal.Gen Idealize.ShloMosaic Idealize.ShloMosaic.TcCoe Idealize.ShloMosaic.Tactic Idealize.SL.Sem

section
variable {F : FTy → Type} [FloatOps F]

/-- A piece that is one block's value `f k b` written to the block's rectangle. -/
def IsBlock {e : EltTy} (f : Fin k0_t1_loop.trips → Fin 40 → S32x128.Idx → Elt F e) (pc : View.Piece (Elt F) S128x5120 e) : Prop :=
  ∃ k b, pc = ⟨blockRect k b, f k b⟩

omit [FloatOps F] in
/-- A trip's forty blocks in front of earlier blocks are blocks. -/
theorem IsBlock.cons {e : EltTy} {f : Fin k0_t1_loop.trips → Fin 40 → S32x128.Idx → Elt F e} (k : Fin k0_t1_loop.trips)
    {T L : List (View.Piece (Elt F) S128x5120 e)} (hT : T = List.ofFn fun b : Fin 40 => (⟨blockRect k b.rev, f k b.rev⟩ : View.Piece (Elt F) S128x5120 e))
    (hL : ∀ pc ∈ L, IsBlock f pc) : ∀ pc ∈ T ++ L, IsBlock f pc := by
  intro pc h
  rcases List.mem_append.mp h with h | h
  · rw [hT] at h
    obtain ⟨b, rfl⟩ := List.mem_ofFn.mp h
    exact ⟨k, b.rev, rfl⟩
  · exact hL pc h

/-- The lane buffer's piece of a trip. -/
def lanePiece (B : Bufs F) (k : Fin k0_t1_loop.trips) : View.Piece (Elt F) S128x128 .f32 :=
  ⟨Rect.unit (s := S128x128) ![R k, 0] ![32, 128] (inb15 k), shapeCast S32x128 (lanes B k (iota .tc S32x128 32 [1] iota_S32x128_d1_w32) 40 (le_refl 40)) shapeCasts_S32x128_S32x128⟩

variable (c : Dev nD) (i : grid0.Coords) (arg1 : Memref sig .tc .vmem S4x128x5120 .fp8e5m2) (harg1 : arg1.IsWhole) (arg2 : Memref sig .tc .vmem S4x40x128 .f32) (harg2 : arg2.IsWhole) (arg3 : Memref sig .tc .vmem S1x1x128 .i32) (harg3 : arg3.IsWhole) (arg4 : Memref sig .tc .vmem S128x5120 .f32) (harg4 : arg4.IsWhole) (arg5 : Memref sig .tc .vmem S128x5120 .f32) (harg5 : arg5.IsWhole) (arg6 : Memref sig .tc .vmem S128x5120 .f32) (harg6 : arg6.IsWhole) (arg7 : Memref sig .tc .vmem S128x5120 .f32) (harg7 : arg7.IsWhole) (arg8 : Memref sig .tc .vmem S128x5120 .f32) (harg8 : arg8.IsWhole) (arg9 : Memref sig .tc .vmem S128x5120 .f32) (harg9 : arg9.IsWhole) (arg10 : Memref sig .tc .vmem S128x5120 .f32) (harg10 : arg10.IsWhole) (arg11 : Memref sig .tc .vmem S128x5120 .fp8e4m3) (harg11 : arg11.IsWhole) (arg12 : Memref sig .tc .vmem S40x128 .f32) (harg12 : arg12.IsWhole) (arg13 : Memref sig .tc .vmem S4x128x128 .f32) (harg13 : arg13.IsWhole) (arg14 : Memref sig .tc .vmem S4x32x128 .i32) (harg14 : arg14.IsWhole) (arg15 : Memref sig .tc .vmem S128x128 .f32) (harg15 : arg15.IsWhole)
  (X_arg1 : BufTy.Contents (Elt F) arg1.view.ty) (X_arg4 : BufTy.Contents (Elt F) arg4.view.ty) (X_arg5 : BufTy.Contents (Elt F) arg5.view.ty)
  (X_arg6 : BufTy.Contents (Elt F) arg6.view.ty) (X_arg13 : BufTy.Contents (Elt F) arg13.view.ty) (X_arg14 : BufTy.Contents (Elt F) arg14.view.ty)

/-- Every piece the loop's first `n` trips write is a block's value, and the lane buffer's pieces are the trips'. -/
theorem loop_pieces (B : Bufs F) (hB : bufs arg1 arg4 arg5 arg6 arg13 arg14 X_arg1 X_arg4 X_arg5 X_arg6 X_arg13 X_arg14 = B) : (n : Nat) → n ≤ k0_t1_loop.trips →
    (∀ pc ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 n).1, IsBlock (newP B) pc)
    ∧ (∀ pc ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 n).2.1, IsBlock (newM B) pc)
    ∧ (∀ pc ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 n).2.2.1, IsBlock (newV B) pc)
    ∧ (∀ pc ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 n).2.2.2.1, IsBlock (upd B) pc)
    ∧ (∀ pc ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 n).2.2.2.2.1, IsBlock (codes B) pc)
    ∧ (∀ pc ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 n).2.2.2.2.2, ∃ k, pc = lanePiece B k)
    ∧ (∀ k : Fin k0_t1_loop.trips, k.val < n → lanePiece B k ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 n).2.2.2.2.2)
  | 0, _ => by
    refine ⟨?_, ?_, ?_, ?_, ?_, ?_, fun k hk => absurd hk (Nat.not_lt_zero _)⟩ <;> exact fun pc h => absurd h List.not_mem_nil
  | n + 1, h => by
    obtain ⟨h1, h2, h3, h4, h5, h6, h7⟩ := loop_pieces B hB n (Nat.le_of_succ_le h)
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (iota .tc S32x128 32 [1] iota_S32x128_d1_w32) X_arg1 X_arg4 X_arg5 X_arg6 X_arg13 X_arg14 ⟨n, h⟩
    have et := trip_lanes (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg4 X_arg5 X_arg6 X_arg13 X_arg14 ⟨n, h⟩
    simp only at e
    subst hB
    rw [e]
    refine ⟨IsBlock.cons ⟨n, h⟩ (trip_newP (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg4 X_arg5 X_arg6 X_arg13 X_arg14 ⟨n, h⟩) h1,
      IsBlock.cons ⟨n, h⟩ (trip_newM (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg4 X_arg5 X_arg6 X_arg13 X_arg14 ⟨n, h⟩) h2,
      IsBlock.cons ⟨n, h⟩ (trip_newV (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg4 X_arg5 X_arg6 X_arg13 X_arg14 ⟨n, h⟩) h3,
      IsBlock.cons ⟨n, h⟩ (trip_upd (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg4 X_arg5 X_arg6 X_arg13 X_arg14 ⟨n, h⟩) h4,
      IsBlock.cons ⟨n, h⟩ (trip_codes (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg4 X_arg5 X_arg6 X_arg13 X_arg14 ⟨n, h⟩) h5, ?_, ?_⟩
    · intro pc hp
      rcases List.mem_append.mp hp with hp | hp
      · rw [et] at hp
        exact ⟨⟨n, h⟩, List.mem_singleton.mp hp⟩
      · exact h6 pc hp
    · intro k hk
      refine List.mem_append.mpr ?_
      by_cases hn : k.val = n
      · left
        rw [et, show k = ⟨n, h⟩ from Fin.ext hn]
        exact List.mem_singleton.mpr rfl
      · right
        exact h7 k (by omega)

end

/-! ## On the extended reals -/

/-- The block of a column, and its lane in the block. -/
def blk (q : Fin 5120) : Fin 40 := ⟨q.val / 128, by have := q.isLt; omega⟩
def lan (q : Fin 5120) : Fin 128 := ⟨q.val % 128, Nat.mod_lt _ (by norm_num)⟩

theorem blk_col (b : Fin 40) (l : Fin 128) : blk (col b l) = b := Fin.ext (by show (128 * b.val + l.val) / 128 = b.val; have := l.isLt; omega)
theorem lan_col (b : Fin 40) (l : Fin 128) : lan (col b l) = l := Fin.ext (by show (128 * b.val + l.val) % 128 = l.val; have := l.isLt; omega)
theorem col_blk (q : Fin 5120) : col (blk q) (lan q) = q := Fin.ext (by show 128 * (q.val / 128) + q.val % 128 = q.val; omega)

/-- Blocks that cover an output block and hold `G` at their rows and columns hold `G` everywhere. -/
theorem canon_blocks {e : EltTy} (f : Fin k0_t1_loop.trips → Fin 40 → S32x128.Idx → Elt Ideal e) (G : Fin 128 → Fin 40 → Fin 128 → Elt Ideal e)
    (hf : ∀ k b r l, f k b (ix2 r l) = G (row k r) b l) (L : List (View.Piece (Elt Ideal) S128x5120 e)) (hL : ∀ pc ∈ L, IsBlock f pc)
    (hc : ∀ y, ∃ pc ∈ L, y ∈ pc.1.set) (y : S128x5120.Idx) : View.canon L y = G (y 0) (blk (y 1)) (lan (y 1)) := by
  refine View.canon_apply_of_pieces (fun y : S128x5120.Idx => G (y 0) (blk (y 1)) (lan (y 1))) L ?_ y (hc y)
  intro pc hp
  obtain ⟨k, b, rfl⟩ := hL pc hp
  intro x
  have h := hf k b (x 0) (x 1)
  have ex : (ix2 (x 0) (x 1) : S32x128.Idx) = x := by
    funext a; match a with
    | ⟨0, _⟩ => rfl
    | ⟨1, _⟩ => rfl
  have e0 : (blockRect k b).emb x 0 = row k (x 0) := Fin.ext (congrArg₂ (· + ·) (R_eq k) (Nat.one_mul (x 0).val) : R k + 1 * (x 0).val = 32 * k.val + (x 0).val)
  have e1 : (blockRect k b).emb x 1 = col b (x 1) := Fin.ext (congrArg (128 * b.val + ·) (Nat.one_mul (x 1).val))
  show f k b x = G ((blockRect k b).emb x 0) (blk ((blockRect k b).emb x 1)) (lan ((blockRect k b).emb x 1))
  rw [e0, e1]
  exact (congrArg (f k b) ex).symm.trans (h.trans (congrArg₂ (G (row k (x 0))) (blk_col b (x 1)).symm (lan_col b (x 1)).symm))

variable (c : Dev nD) (i : grid0.Coords) (arg1 : Memref sig .tc .vmem S4x128x5120 .fp8e5m2) (harg1 : arg1.IsWhole) (arg2 : Memref sig .tc .vmem S4x40x128 .f32) (harg2 : arg2.IsWhole) (arg3 : Memref sig .tc .vmem S1x1x128 .i32) (harg3 : arg3.IsWhole) (arg4 : Memref sig .tc .vmem S128x5120 .f32) (harg4 : arg4.IsWhole) (arg5 : Memref sig .tc .vmem S128x5120 .f32) (harg5 : arg5.IsWhole) (arg6 : Memref sig .tc .vmem S128x5120 .f32) (harg6 : arg6.IsWhole) (arg7 : Memref sig .tc .vmem S128x5120 .f32) (harg7 : arg7.IsWhole) (arg8 : Memref sig .tc .vmem S128x5120 .f32) (harg8 : arg8.IsWhole) (arg9 : Memref sig .tc .vmem S128x5120 .f32) (harg9 : arg9.IsWhole) (arg10 : Memref sig .tc .vmem S128x5120 .f32) (harg10 : arg10.IsWhole) (arg11 : Memref sig .tc .vmem S128x5120 .fp8e4m3) (harg11 : arg11.IsWhole) (arg12 : Memref sig .tc .vmem S40x128 .f32) (harg12 : arg12.IsWhole) (arg13 : Memref sig .tc .vmem S4x128x128 .f32) (harg13 : arg13.IsWhole) (arg14 : Memref sig .tc .vmem S4x32x128 .i32) (harg14 : arg14.IsWhole) (arg15 : Memref sig .tc .vmem S128x128 .f32) (harg15 : arg15.IsWhole)
    (x0 : Vec Ideal S4x128x5120 .fp8e5m2) (x1 : Vec Ideal S4x40x128 .f32) (x2 : Vec Ideal S1x1x128 .i32) (x3 : Vec Ideal S128x5120 .f32) (x4 : Vec Ideal S128x5120 .f32) (x5 : Vec Ideal S128x5120 .f32)

/-- The loop's buffers at the point. -/
theorem bufs_eq : bufs (F := Ideal) arg1 arg4 arg5 arg6 arg13 arg14 (harg1.unread x0) (harg4.unread x3) (harg5.unread x4) (harg6.unread x5)
      (arg13.view.writes (Elt Ideal) arg13.view.junk (kernelRun0_A.sl.HS0_4 c arg2 harg2 arg3 harg3 x1 x2))
      (arg14.view.writes (Elt Ideal) arg14.view.junk (kernelRun0_A.sl.HS1_4 (F := Ideal) c arg3 harg3 x2)) = B0 x0 x1 x2 x3 x4 x5 := by
  unfold bufs B0
  rw [read13, read14, Memref.IsWhole.read_unread, Memref.IsWhole.read_unread, Memref.IsWhole.read_unread, Memref.IsWhole.read_unread]

theorem trips_eq : Scf.trips 0#32 (Scalar.addi 0#32 4#32) 1#32 ≤ k0_t1_loop.trips := le_refl _

theorem out6 (y : S128x5120.Idx) : out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y
      = w x0 x1 x2 x3 x4 x5 (y 0) (blk (y 1)) (lan (y 1)) := by
  unfold out0_A_6
  rw [View.read_writes_junk_eq_canon]
  refine canon_blocks _ (fun q b l => w x0 x1 x2 x3 x4 x5 q b l) (newP_apply x0 x1 x2 x3 x4 x5) _ ?_ (cover0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) y
  unfold kernelRun0_A
  exact (loop_pieces (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ (B0 x0 x1 x2 x3 x4 x5) (bufs_eq ..) _ trips_eq).1

theorem out7 (y : S128x5120.Idx) : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y
      = Num.mom (x4 (ix2 (y 0) (col (blk (y 1)) (lan (y 1))))) (g x0 x1 x2 (y 0) (blk (y 1)) (lan (y 1))) := by
  unfold out0_A_7
  rw [View.read_writes_junk_eq_canon]
  refine canon_blocks _ (fun q b l => Num.mom (x4 (ix2 q (col b l))) (g x0 x1 x2 q b l)) (newM_apply x0 x1 x2 x3 x4 x5) _ ?_ (cover0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) y
  unfold kernelRun0_A
  exact (loop_pieces (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ (B0 x0 x1 x2 x3 x4 x5) (bufs_eq ..) _ trips_eq).2.1

theorem out8 (y : S128x5120.Idx) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y
      = Num.vel (x5 (ix2 (y 0) (col (blk (y 1)) (lan (y 1))))) (g x0 x1 x2 (y 0) (blk (y 1)) (lan (y 1))) := by
  unfold out0_A_8
  rw [View.read_writes_junk_eq_canon]
  refine canon_blocks _ (fun q b l => Num.vel (x5 (ix2 q (col b l))) (g x0 x1 x2 q b l)) (newV_apply x0 x1 x2 x3 x4 x5) _ ?_ (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) y
  unfold kernelRun0_A
  exact (loop_pieces (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ (B0 x0 x1 x2 x3 x4 x5) (bufs_eq ..) _ trips_eq).2.2.1

theorem out9 (y : S128x5120.Idx) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y
      = u x0 x1 x2 x3 x4 x5 (y 0) (blk (y 1)) (lan (y 1)) := by
  unfold out0_A_9
  rw [View.read_writes_junk_eq_canon]
  refine canon_blocks _ (fun q b l => u x0 x1 x2 x3 x4 x5 q b l) (upd_apply x0 x1 x2 x3 x4 x5) _ ?_ (cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) y
  unfold kernelRun0_A
  exact (loop_pieces (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ (B0 x0 x1 x2 x3 x4 x5) (bufs_eq ..) _ trips_eq).2.2.2.1

theorem out10 (y : S128x5120.Idx) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y
      = Num.code (w x0 x1 x2 x3 x4 x5 (y 0) (blk (y 1)) (lan (y 1))) (Ideal.exp2 (Num.w32 0x00000000#32 - ex x0 x1 x2 x3 x4 x5 (y 0) (blk (y 1)))) := by
  unfold out0_A_10
  rw [View.read_writes_junk_eq_canon]
  refine canon_blocks _ (fun q b l => Num.code (w x0 x1 x2 x3 x4 x5 q b l) (Ideal.exp2 (Num.w32 0x00000000#32 - ex x0 x1 x2 x3 x4 x5 q b))) (codes_apply x0 x1 x2 x3 x4 x5) _ ?_ (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) y
  unfold kernelRun0_A
  exact (loop_pieces (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ (B0 x0 x1 x2 x3 x4 x5) (bufs_eq ..) _ trips_eq).2.2.2.2.1

/-- The trip of a row, and its place in the trip. -/
def trip (q : Fin 128) : Fin k0_t1_loop.trips := ⟨q.val / 32, (Nat.div_lt_of_lt_mul q.isLt : q.val / 32 < 4)⟩
def sub (q : Fin 128) : Fin 32 := ⟨q.val % 32, Nat.mod_lt _ (by norm_num)⟩

theorem row_trip (q : Fin 128) : row (trip q) (sub q) = q := Fin.ext (by show 32 * (q.val / 32) + q.val % 32 = q.val; omega)
theorem trip_row (k : Fin k0_t1_loop.trips) (r : Fin 32) : trip (row k r) = k := Fin.ext (by show (32 * k.val + r.val) / 32 = k.val; have := r.isLt; omega)
theorem sub_row (k : Fin k0_t1_loop.trips) (r : Fin 32) : sub (row k r) = r := Fin.ext (by show (32 * k.val + r.val) % 32 = r.val; have := r.isLt; omega)

/-- Lane `b` of the lane buffer. -/
def lane (b : Fin 40) : Fin 128 := ⟨b.val, Nat.lt_of_lt_of_le b.isLt (by norm_num)⟩

section
variable (x0 : Vec Ideal S4x128x5120 .fp8e5m2) (x1 : Vec Ideal S4x40x128 .f32) (x2 : Vec Ideal S1x1x128 .i32) (x3 x4 x5 : Vec Ideal S128x5120 .f32)

/-- A row of the lane buffer is in its trip's piece. -/
theorem mem_lanePiece (B : Bufs Ideal) (y : S128x128.Idx) : y ∈ (lanePiece B (trip (y 0))).1.set := by
  have h0 : (y 0).val < 128 := (y 0).isLt
  have h1 : (y 1).val < 128 := (y 1).isLt
  have e : R (trip (y 0)) = 32 * ((y 0).val / 32) := R_eq _
  refine (Rect.mem_set_unit (inb := inb15 (trip (y 0)))).mpr fun a => ?_
  match a with
  | ⟨0, _⟩ => exact ⟨by show R (trip (y 0)) ≤ (y 0).val; omega, by show (y 0).val < R (trip (y 0)) + 32; omega⟩
  | ⟨1, _⟩ => exact ⟨Nat.zero_le _, by show (y 1).val < 0 + 128; omega⟩

/-- The lane buffer after the loop: row `q`, lane `b` is the scale of block `b` of row `q`. -/
theorem canon_lanes (L : List (View.Piece (Elt Ideal) S128x128 .f32)) (hL : ∀ pc ∈ L, ∃ k, pc = lanePiece (B0 x0 x1 x2 x3 x4 x5) k)
    (hc : ∀ k, lanePiece (B0 x0 x1 x2 x3 x4 x5) k ∈ L) (q : Fin 128) (b : Fin 40) :
    View.canon L (ix2 q (lane b)) = Ideal.exp2 (ex x0 x1 x2 x3 x4 x5 q b) := by
  refine (View.canon_apply_of_pieces (fun y : S128x128.Idx => lanes (B0 x0 x1 x2 x3 x4 x5) (trip (y 0)) (iota .tc S32x128 32 [1] iota_S32x128_d1_w32) 40 (le_refl 40)
    (ix2 (sub (y 0)) (y 1))) L ?_ (ix2 q (lane b)) ⟨_, hc _, mem_lanePiece _ _⟩).trans ?_
  · intro pc hp
    obtain ⟨k, rfl⟩ := hL pc hp
    intro x
    have ex : (ix2 (x 0) (x 1) : S32x128.Idx) = x := by
      funext a; match a with
      | ⟨0, _⟩ => rfl
      | ⟨1, _⟩ => rfl
    have e0 : (lanePiece (B0 x0 x1 x2 x3 x4 x5) k).1.emb x 0 = row k (x 0) := Fin.ext (congrArg₂ (· + ·) (R_eq k) (Nat.one_mul (x 0).val) : R k + 1 * (x 0).val = 32 * k.val + (x 0).val)
    have e1 : (lanePiece (B0 x0 x1 x2 x3 x4 x5) k).1.emb x 1 = x 1 := Fin.ext ((Nat.zero_add _).trans (Nat.one_mul (x 1).val))
    refine (congrFun (shapeCast_self (lanes (B0 x0 x1 x2 x3 x4 x5) k (iota .tc S32x128 32 [1] iota_S32x128_d1_w32) 40 (le_refl 40)) shapeCasts_S32x128_S32x128) x : shapeCast S32x128 _ _ x = _).trans ?_
    show lanes _ k _ 40 _ x = lanes _ (trip ((lanePiece (B0 x0 x1 x2 x3 x4 x5) k).1.emb x 0)) _ 40 _ (ix2 (sub ((lanePiece (B0 x0 x1 x2 x3 x4 x5) k).1.emb x 0)) ((lanePiece (B0 x0 x1 x2 x3 x4 x5) k).1.emb x 1))
    rw [e0, e1]
    have et := trip_row k (x 0)
    have es := sub_row k (x 0)
    rw [et, es]
    exact (congrArg _ ex).symm
  · refine (lanes_apply x0 x1 x2 x3 x4 x5 (trip q) (sub q) (lane b) 40 (le_refl 40) b.isLt).trans ?_
    rw [row_trip]
    rfl

/-- The store of the scales reads the lane buffer transposed and cut to forty rows. -/
theorem pay7_apply (v : Vec Ideal S128x128 .f32) (b : Fin 40) (q : Fin 128) : k0_pay7 v (ix2 b q) = v (ix2 q (lane b)) := by
  unfold k0_pay7
  pointwise
  rfl

/-- The one store of the scales block, on the lane buffer's pieces. -/
theorem scales_apply (v : View sig Kind.tc Space.vmem S128x128 .f32) (L : List (View.Piece (Elt Ideal) S128x128 .f32))
    (hL : ∀ pc ∈ L, ∃ k, pc = lanePiece (B0 x0 x1 x2 x3 x4 x5) k) (hc : ∀ k, lanePiece (B0 x0 x1 x2 x3 x4 x5) k ∈ L) (b : Fin 40) (q : Fin 128) :
    View.canon [(⟨Rect.unit (s := S40x128) ![0, 0] ![40, 128] inb_S40x128_S40x128_0_0,
        k0_pay7 (v.readCov L (Rect.unit (s := S128x128) ![0, 0] ![128, 128] inb_S128x128_S128x128_0_0))⟩ : View.Piece (Elt Ideal) S40x128 .f32)] (ix2 b q)
      = Ideal.exp2 (ex x0 x1 x2 x3 x4 x5 q b) := by
  rw [View.readCov_eq_canon_ld v L _ fun y => ⟨_, hc (trip (y 0)), mem_lanePiece _ y⟩]
  refine (congrFun (View.canon_unit_zero (S := S40x128) (by decide) _ _) _).trans ((pay7_apply _ b q).trans ?_)
  refine (congrFun (View.ld_unit_zero (S := S128x128) (by decide) _ _) _).trans ?_
  exact canon_lanes x0 x1 x2 x3 x4 x5 L hL hc q b

end

theorem out11 (b : Fin 40) (q : Fin 128) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (ix2 b q) = Ideal.exp2 (ex x0 x1 x2 x3 x4 x5 q b) := by
  unfold out0_A_11
  rw [View.read_writes_junk_eq_canon]
  unfold kernelRun0_A
  dsimp only
  obtain ⟨-, -, -, -, -, h6, h7⟩ := loop_pieces (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ (B0 x0 x1 x2 x3 x4 x5) (bufs_eq ..) _ trips_eq
  exact scales_apply x0 x1 x2 x3 x4 x5 arg15.view _ h6 (fun k => h7 k k.isLt) b q

end Cert.KernelIdeal.Block

end
-- ==== Proof.Whole.lean ====
/- The whole run: each result array after it, entry by entry, as the scalar arithmetic on the argument arrays. -/
module

public import proofs.«01_k».proof.Proof.Body
public import proofs.«01_k».proof.Proof.Gen.KernelIdeal.Value
public import Idealize.ShloMosaic.Lib.Pipeline.ValueKit.Geometry

@[expose] public section

set_option maxRecDepth 100000

noncomputable section

namespace Cert.KernelIdeal.Whole

open Cert.KernelIdeal Cert.KernelIdeal.Gen Cert.KernelIdeal.Value Cert.KernelIdeal.Block
open Idealize.ShloMosaic Idealize.ShloMosaic.TcCoe Idealize.ShloMosaic.Tactic Idealize.SL.Sem

/-! ## The result arrays, given the gradient `gd` of each row, block and lane -/

/-- The array's row of a point's row. -/
def arow (t : Fin cfg0.N) (q : Fin 128) : Fin 8192 := ⟨128 * t.val + q.val, by
  have : t.val < 64 := t.isLt
  have := q.isLt
  omega⟩

section
variable (p m v : Vec Ideal S8192x5120 .f32) (gd : Fin 8192 → Fin 40 → Fin 128 → EReal)

/-- The update. -/
def U (r : Fin 8192) (b : Fin 40) (l : Fin 128) : EReal :=
  Num.updt (Num.mom (m (ix2 r (col b l))) (gd r b l)) (Num.vel (v (ix2 r (col b l))) (gd r b l)) (p (ix2 r (col b l)))

/-- The new master weight. -/
def W (r : Fin 8192) (b : Fin 40) (l : Fin 128) : EReal := p (ix2 r (col b l)) - U p m v gd r b l

/-- The exponent of a block's scale. -/
def E (r : Fin 8192) (b : Fin 40) : EReal := Num.expo (Num.rowMax fun l => W p m v gd r b l)

/-- An array given block by block. -/
def arr (f : Fin 8192 → Fin 40 → Fin 128 → EReal) (y : S8192x5120.Idx) : EReal := f (y 0) (blk (y 1)) (lan (y 1))

def R6 : S8192x5120.Idx → EReal := arr (W p m v gd)
def R7 : S8192x5120.Idx → EReal := arr fun r b l => Num.mom (m (ix2 r (col b l))) (gd r b l)
def R8 : S8192x5120.Idx → EReal := arr fun r b l => Num.vel (v (ix2 r (col b l))) (gd r b l)
def R9 : S8192x5120.Idx → EReal := arr (U p m v gd)
def R10 : S8192x5120.Idx → EReal := arr fun r b l => Num.code (W p m v gd r b l) (Ideal.exp2 (Num.w32 0x00000000#32 - E p m v gd r b))
def R11 (y : S40x8192.Idx) : EReal := Ideal.exp2 (E p m v gd (y 1) (y 0))

end

/-! ## The argument arrays' blocks at a point -/

variable (m : (ℓ : Loc nD τ sig) → Buf (Elt Ideal) ℓ) (c : Dev nD)

abbrev a0 : Vec Ideal S4x8192x5120 .fp8e5m2 := m ((c : Thread nD τ).loc main_arg0)
abbrev a1 : Vec Ideal S4x8192x40 .f32 := m ((c : Thread nD τ).loc main_arg1)
abbrev a2 : Vec Ideal S8192x5120 .f32 := m ((c : Thread nD τ).loc main_arg2)
abbrev a3 : Vec Ideal S8192x5120 .f32 := m ((c : Thread nD τ).loc main_arg3)
abbrev a4 : Vec Ideal S8192x5120 .f32 := m ((c : Thread nD τ).loc main_arg4)
abbrev a5 : Vec Ideal S8192 .i32 := m ((c : Thread nD τ).loc main_arg5)

/-- The gradient, as the kernel adds it up. -/
def kg (r : Fin 8192) (b : Fin 40) (l : Fin 128) : EReal :=
  Num.kGrad (a5 m c (ix1 r)) (fun p => a0 m c (ix3 p r (col b l))) (fun p => a1 m c (ix3 p r b))

/-- The scales as the kernel is given them: rows and blocks exchanged. -/
theorem V_v0 : V m c main_v0 = (transpose S4x40x8192 [0, 2, 1] (a1 m c) transposes_S4x8192x40_S4x40x8192_0_2_1 : Vec Ideal S4x40x8192 .f32) := by
  show StableHlo.after hostOps0 _ _ = _
  unfold hostOps0
  after_results

/-- The counts as the kernel is given them: a point's rows apart. -/
theorem V_v1 : V m c main_v1 = (shapeCast S64x1x128 (a5 m c) shapeCasts_S8192_S64x1x128 : Vec Ideal S64x1x128 .i32) := by
  show StableHlo.after hostOps0 _ _ = _
  unfold hostOps0
  after_results
  rfl

theorem swap_apply (x : Vec Ideal S4x8192x40 .f32) (p : Fin 4) (b : Fin 40) (r : Fin 8192) :
    (transpose S4x40x8192 [0, 2, 1] x transposes_S4x8192x40_S4x40x8192_0_2_1 : Vec Ideal S4x40x8192 .f32) (ix3 p b r) = x (ix3 p r b) := by
  pointwise

theorem split_apply (x : Vec Ideal S8192 .i32) (t : Fin 64) (q : Fin 128) :
    (shapeCast S64x1x128 x shapeCasts_S8192_S64x1x128 : Vec Ideal S64x1x128 .i32) (ix3 t 0 q) = x (ix1 ⟨128 * t.val + q.val, by have := t.isLt; have := q.isLt; omega⟩) := by
  pointwise
  refine congrArg x (congrArg ix1 (Fin.ext ?_))
  show t.val * 128 + q.val = 128 * t.val + q.val
  omega

/-! The point's block of each array: its place along the axis that the grid walks. -/

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = 0 ∧ win0_11.index t (1 : Fin 2) = t.val :=
  (by decide +kernel : ∀ t : Fin grid0.N, _)

theorem blk0 (t : Fin cfg0.N) (p : Fin 4) (q : Fin 128) (k : Fin 5120) :
    (iblk m c 0 t : Vec Ideal S4x128x5120 .fp8e5m2) (ix3 p q k) = a0 m c (ix3 p (arow t q) k) := by
  obtain ⟨e0, e1, e2⟩ := idx0 t
  show V m c main_arg0 (((cfg0.win 0).blk t).view.emb (ix3 p q k : S4x128x5120.Idx)) = _
  rw [V_main_arg0]
  refine congrArg (a0 m c) (funext fun a => Fin.ext ?_)
  match a with
  | ⟨0, _⟩ => show win0_0.index t (0 : Fin 3) * 4 + 1 * p.val = p.val; omega
  | ⟨1, _⟩ => show win0_0.index t (1 : Fin 3) * 128 + 1 * q.val = 128 * t.val + q.val; omega
  | ⟨2, _⟩ => show win0_0.index t (2 : Fin 3) * 5120 + 1 * k.val = k.val; omega

theorem blk1 (t : Fin cfg0.N) (p : Fin 4) (b : Fin 40) (q : Fin 128) :
    (iblk m c 1 t : Vec Ideal S4x40x128 .f32) (ix3 p b q) = a1 m c (ix3 p (arow t q) b) := by
  obtain ⟨e0, e1, e2⟩ := idx1 t
  show V m c main_v0 (((cfg0.win 1).blk t).view.emb (ix3 p b q : S4x40x128.Idx)) = _
  rw [V_v0, ← swap_apply (a1 m c) p b (arow t q)]
  refine congrArg (transpose S4x40x8192 [0, 2, 1] (a1 m c) transposes_S4x8192x40_S4x40x8192_0_2_1) (funext fun a => Fin.ext ?_)
  match a with
  | ⟨0, _⟩ => show win0_1.index t (0 : Fin 3) * 4 + 1 * p.val = p.val; omega
  | ⟨1, _⟩ => show win0_1.index t (1 : Fin 3) * 40 + 1 * b.val = b.val; omega
  | ⟨2, _⟩ => show win0_1.index t (2 : Fin 3) * 128 + 1 * q.val = 128 * t.val + q.val; omega

theorem blk2 (t : Fin cfg0.N) (q : Fin 128) : (iblk m c 2 t : Vec Ideal S1x1x128 .i32) (ix3 0 0 q) = a5 m c (ix1 (arow t q)) := by
  obtain ⟨e0, e1, e2⟩ := idx2 t
  show V m c main_v1 (((cfg0.win 2).blk t).view.emb (ix3 0 0 q : S1x1x128.Idx)) = _
  rw [V_v1]
  refine Eq.trans ?_ (split_apply (a5 m c) t q)
  refine congrArg (shapeCast S64x1x128 (a5 m c) shapeCasts_S8192_S64x1x128) (funext fun a => Fin.ext ?_)
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 128 + 1 * q.val = q.val; omega

theorem blk3 (t : Fin cfg0.N) (q : Fin 128) (k : Fin 5120) :
    (iblk m c 3 t : Vec Ideal S128x5120 .f32) (ix2 q k) = a2 m c (ix2 (arow t q) k) := by
  obtain ⟨e0, e1⟩ := idx3 t
  show V m c main_arg2 (((cfg0.win 3).blk t).view.emb (ix2 q k : S128x5120.Idx)) = _
  rw [V_main_arg2]
  refine congrArg (a2 m c) (funext fun a => Fin.ext ?_)
  match a with
  | ⟨0, _⟩ => show win0_3.index t (0 : Fin 2) * 128 + 1 * q.val = 128 * t.val + q.val; omega
  | ⟨1, _⟩ => show win0_3.index t (1 : Fin 2) * 5120 + 1 * k.val = k.val; omega

theorem blk4 (t : Fin cfg0.N) (q : Fin 128) (k : Fin 5120) :
    (iblk m c 4 t : Vec Ideal S128x5120 .f32) (ix2 q k) = a3 m c (ix2 (arow t q) k) := by
  obtain ⟨e0, e1⟩ := idx4 t
  show V m c main_arg3 (((cfg0.win 4).blk t).view.emb (ix2 q k : S128x5120.Idx)) = _
  rw [V_main_arg3]
  refine congrArg (a3 m c) (funext fun a => Fin.ext ?_)
  match a with
  | ⟨0, _⟩ => show win0_4.index t (0 : Fin 2) * 128 + 1 * q.val = 128 * t.val + q.val; omega
  | ⟨1, _⟩ => show win0_4.index t (1 : Fin 2) * 5120 + 1 * k.val = k.val; omega

theorem blk5 (t : Fin cfg0.N) (q : Fin 128) (k : Fin 5120) :
    (iblk m c 5 t : Vec Ideal S128x5120 .f32) (ix2 q k) = a4 m c (ix2 (arow t q) k) := by
  obtain ⟨e0, e1⟩ := idx5 t
  show V m c main_arg4 (((cfg0.win 5).blk t).view.emb (ix2 q k : S128x5120.Idx)) = _
  rw [V_main_arg4]
  refine congrArg (a4 m c) (funext fun a => Fin.ext ?_)
  match a with
  | ⟨0, _⟩ => show win0_5.index t (0 : Fin 2) * 128 + 1 * q.val = 128 * t.val + q.val; omega
  | ⟨1, _⟩ => show win0_5.index t (1 : Fin 2) * 5120 + 1 * k.val = k.val; omega

/-! ## The scalars at a point's row are the scalars at the array's row -/

theorem g_eq (t : Fin cfg0.N) (q : Fin 128) (b : Fin 40) (l : Fin 128) :
    g (iblk m c 0 t) (iblk m c 1 t) (iblk m c 2 t) q b l = kg m c (arow t q) b l := by
  unfold g kg
  rw [blk2 m c t q, funext fun p => blk0 m c t p q (col b l), funext fun p => blk1 m c t p b q]

theorem u_eq (t : Fin cfg0.N) (q : Fin 128) (b : Fin 40) (l : Fin 128) :
    u (iblk m c 0 t) (iblk m c 1 t) (iblk m c 2 t) (iblk m c 3 t) (iblk m c 4 t) (iblk m c 5 t) q b l = U (a2 m c) (a3 m c) (a4 m c) (kg m c) (arow t q) b l := by
  unfold u U
  rw [g_eq m c t q b l, blk3 m c t q (col b l), blk4 m c t q (col b l), blk5 m c t q (col b l)]

theorem w_eq (t : Fin cfg0.N) (q : Fin 128) (b : Fin 40) (l : Fin 128) :
    w (iblk m c 0 t) (iblk m c 1 t) (iblk m c 2 t) (iblk m c 3 t) (iblk m c 4 t) (iblk m c 5 t) q b l = W (a2 m c) (a3 m c) (a4 m c) (kg m c) (arow t q) b l := by
  unfold w W
  rw [u_eq m c t q b l, blk3 m c t q (col b l)]

theorem ex_eq (t : Fin cfg0.N) (q : Fin 128) (b : Fin 40) :
    ex (iblk m c 0 t) (iblk m c 1 t) (iblk m c 2 t) (iblk m c 3 t) (iblk m c 4 t) (iblk m c 5 t) q b = E (a2 m c) (a3 m c) (a4 m c) (kg m c) (arow t q) b := by
  unfold ex E
  rw [funext fun l => w_eq m c t q b l]

/-! ## The result arrays -/

theorem final6 : (dats m 0 c).arrAt 6 cfg0.N = R6 (a2 m c) (a3 m c) (a4 m c) (kg m c) := by
  refine (dats m 0 c).arrAt_eq_of_cover 6 (R6 (a2 m c) (a3 m c) (a4 m c) (kg m c)) (fun t _ => ?_)
    (Pipeline.Window.Covers.cover (w := win0_6) (by decide +kernel) (Memref.isWhole_whole _))
  rw [flushed6_A]
  funext (j : S128x5120.Idx)
  obtain ⟨e0, e1⟩ := idx6 t
  have h0 : ((cfg0.win 6).blk t).view.emb j (0 : Fin 2) = arow t (j 0) := Fin.ext (by
    show win0_6.index t (0 : Fin 2) * 128 + 1 * (j 0).val = 128 * t.val + (j 0).val; omega)
  have h1 : ((cfg0.win 6).blk t).view.emb j (1 : Fin 2) = j 1 := Fin.ext (by
    show win0_6.index t (1 : Fin 2) * 5120 + 1 * (j 1).val = (j 1).val; omega)
  refine (out6 .. : out0_A_6 (F := Ideal) _ _ _ _ _ _ _ _ _ _ _ _ _ _ _ _ _ _ _ _ _ _ _ _ _ _ _ _ _ _ _ _ _ _ _ _ _ _ j = _).trans ?_
  show _ = R6 (a2 m c) (a3 m c) (a4 m c) (kg m c) (((cfg0.win 6).blk t).view.emb j)
  unfold R6 arr
  rw [h0, h1]
  exact w_eq m c t (j 0) _ _

theorem final7 : (dats m 0 c).arrAt 7 cfg0.N = R7 (a3 m c) (kg m c) := by
  refine (dats m 0 c).arrAt_eq_of_cover 7 (R7 (a3 m c) (kg m c)) (fun t _ => ?_)
    (Pipeline.Window.Covers.cover (w := win0_7) (by decide +kernel) (Memref.isWhole_whole _))
  rw [flushed7_A]
  funext (j : S128x5120.Idx)
  obtain ⟨e0, e1⟩ := idx7 t
  have h0 : ((cfg0.win 7).blk t).view.emb j (0 : Fin 2) = arow t (j 0) := Fin.ext (by
    show win0_7.index t (0 : Fin 2) * 128 + 1 * (j 0).val = 128 * t.val + (j 0).val; omega)
  have h1 : ((cfg0.win 7).blk t).view.emb j (1 : Fin 2) = j 1 := Fin.ext (by
    show win0_7.index t (1 : Fin 2) * 5120 + 1 * (j 1).val = (j 1).val; omega)
  refine (out7 .. : out0_A_7 (F := Ideal) _ _ _ _ _ _ _ _ _ _ _ _ _ _ _ _ _ _ _ _ _ _ _ _ _ _ _ _ _ _ _ _ _ _ _ _ _ _ j = _).trans ?_
  show _ = R7 (a3 m c) (kg m c) (((cfg0.win 7).blk t).view.emb j)
  unfold R7 arr
  rw [h0, h1]
  exact congrArg₂ Num.mom (blk4 m c t (j 0) (col (blk (j 1)) (lan (j 1)))) (g_eq m c t (j 0) (blk (j 1)) (lan (j 1)))

theorem final8 : (dats m 0 c).arrAt 8 cfg0.N = R8 (a4 m c) (kg m c) := by
  refine (dats m 0 c).arrAt_eq_of_cover 8 (R8 (a4 m c) (kg m c)) (fun t _ => ?_)
    (Pipeline.Window.Covers.cover (w := win0_8) (by decide +kernel) (Memref.isWhole_whole _))
  rw [flushed8_A]
  funext (j : S128x5120.Idx)
  obtain ⟨e0, e1⟩ := idx8 t
  have h0 : ((cfg0.win 8).blk t).view.emb j (0 : Fin 2) = arow t (j 0) := Fin.ext (by
    show win0_8.index t (0 : Fin 2) * 128 + 1 * (j 0).val = 128 * t.val + (j 0).val; omega)
  have h1 : ((cfg0.win 8).blk t).view.emb j (1 : Fin 2) = j 1 := Fin.ext (by
    show win0_8.index t (1 : Fin 2) * 5120 + 1 * (j 1).val = (j 1).val; omega)
  refine (out8 .. : out0_A_8 (F := Ideal) _ _ _ _ _ _ _ _ _ _ _ _ _ _ _ _ _ _ _ _ _ _ _ _ _ _ _ _ _ _ _ _ _ _ _ _ _ _ j = _).trans ?_
  show _ = R8 (a4 m c) (kg m c) (((cfg0.win 8).blk t).view.emb j)
  unfold R8 arr
  rw [h0, h1]
  exact congrArg₂ Num.vel (blk5 m c t (j 0) (col (blk (j 1)) (lan (j 1)))) (g_eq m c t (j 0) (blk (j 1)) (lan (j 1)))

theorem final9 : (dats m 0 c).arrAt 9 cfg0.N = R9 (a2 m c) (a3 m c) (a4 m c) (kg m c) := by
  refine (dats m 0 c).arrAt_eq_of_cover 9 (R9 (a2 m c) (a3 m c) (a4 m c) (kg m c)) (fun t _ => ?_)
    (Pipeline.Window.Covers.cover (w := win0_9) (by decide +kernel) (Memref.isWhole_whole _))
  rw [flushed9_A]
  funext (j : S128x5120.Idx)
  obtain ⟨e0, e1⟩ := idx9 t
  have h0 : ((cfg0.win 9).blk t).view.emb j (0 : Fin 2) = arow t (j 0) := Fin.ext (by
    show win0_9.index t (0 : Fin 2) * 128 + 1 * (j 0).val = 128 * t.val + (j 0).val; omega)
  have h1 : ((cfg0.win 9).blk t).view.emb j (1 : Fin 2) = j 1 := Fin.ext (by
    show win0_9.index t (1 : Fin 2) * 5120 + 1 * (j 1).val = (j 1).val; omega)
  refine (out9 .. : out0_A_9 (F := Ideal) _ _ _ _ _ _ _ _ _ _ _ _ _ _ _ _ _ _ _ _ _ _ _ _ _ _ _ _ _ _ _ _ _ _ _ _ _ _ j = _).trans ?_
  show _ = R9 (a2 m c) (a3 m c) (a4 m c) (kg m c) (((cfg0.win 9).blk t).view.emb j)
  unfold R9 arr
  rw [h0, h1]
  exact u_eq m c t (j 0) _ _

theorem final10 : (dats m 0 c).arrAt 10 cfg0.N = R10 (a2 m c) (a3 m c) (a4 m c) (kg m c) := by
  refine (dats m 0 c).arrAt_eq_of_cover 10 (R10 (a2 m c) (a3 m c) (a4 m c) (kg m c)) (fun t _ => ?_)
    (Pipeline.Window.Covers.cover (w := win0_10) (by decide +kernel) (Memref.isWhole_whole _))
  rw [flushed10_A]
  funext (j : S128x5120.Idx)
  obtain ⟨e0, e1⟩ := idx10 t
  have h0 : ((cfg0.win 10).blk t).view.emb j (0 : Fin 2) = arow t (j 0) := Fin.ext (by
    show win0_10.index t (0 : Fin 2) * 128 + 1 * (j 0).val = 128 * t.val + (j 0).val; omega)
  have h1 : ((cfg0.win 10).blk t).view.emb j (1 : Fin 2) = j 1 := Fin.ext (by
    show win0_10.index t (1 : Fin 2) * 5120 + 1 * (j 1).val = (j 1).val; omega)
  refine (out10 .. : out0_A_10 (F := Ideal) _ _ _ _ _ _ _ _ _ _ _ _ _ _ _ _ _ _ _ _ _ _ _ _ _ _ _ _ _ _ _ _ _ _ _ _ _ _ j = _).trans ?_
  show _ = R10 (a2 m c) (a3 m c) (a4 m c) (kg m c) (((cfg0.win 10).blk t).view.emb j)
  unfold R10 arr
  rw [h0, h1]
  exact congrArg₂ (fun a e => Num.code a (Ideal.exp2 (Num.w32 0x00000000#32 - e))) (w_eq m c t (j 0) (blk (j 1)) (lan (j 1))) (ex_eq m c t (j 0) (blk (j 1)))

theorem final11 : (dats m 0 c).arrAt 11 cfg0.N = R11 (a2 m c) (a3 m c) (a4 m c) (kg m c) := by
  refine (dats m 0 c).arrAt_eq_of_cover 11 (R11 (a2 m c) (a3 m c) (a4 m c) (kg m c)) (fun t _ => ?_)
    (Pipeline.Window.Covers.cover (w := win0_11) (by decide +kernel) (Memref.isWhole_whole _))
  rw [flushed11_A]
  funext (j : S40x128.Idx)
  obtain ⟨e0, e1⟩ := idx11 t
  have h0 : ((cfg0.win 11).blk t).view.emb j (0 : Fin 2) = j 0 := Fin.ext (by
    show win0_11.index t (0 : Fin 2) * 40 + 1 * (j 0).val = (j 0).val; omega)
  have h1 : ((cfg0.win 11).blk t).view.emb j (1 : Fin 2) = arow t (j 1) := Fin.ext (by
    show win0_11.index t (1 : Fin 2) * 128 + 1 * (j 1).val = 128 * t.val + (j 1).val; omega)
  have ej : (ix2 (j 0) (j 1) : S40x128.Idx) = j := by
    funext a; match a with
    | ⟨0, _⟩ => rfl
    | ⟨1, _⟩ => rfl
  refine ((congrArg (out0_A_11 (F := Ideal) _ _ _ _ _ _ _ _ _ _ _ _ _ _ _ _ _ _ _ _ _ _ _ _ _ _ _ _ _ _ _ _ _ _ _ _ _ _) ej).symm.trans (out11 .. )).trans ?_
  show _ = R11 (a2 m c) (a3 m c) (a4 m c) (kg m c) (((cfg0.win 11).blk t).view.emb j)
  unfold R11
  rw [h0, h1]
  exact congrArg Ideal.exp2 (ex_eq m c t (j 1) (j 0))

end Cert.KernelIdeal.Whole

end
-- ==== Proof.Ref.lean ====
/- The reference's results, entry by entry: the scalar arithmetic at the entry's row, block and lane. -/
module

public import proofs.«01_k».proof.Proof.Whole
public import proofs.«01_k».proof.Proof.Gen.ReferenceIdeal.Value
public import Idealize.ShloMosaic.Lib.Pointwise

@[expose] public section

set_option maxRecDepth 100000

noncomputable section

namespace Cert.ReferenceIdeal.Read

open Cert.ReferenceIdeal Cert.ReferenceIdeal.Gen Idealize.ShloMosaic Idealize.ShloMosaic.TcCoe Idealize.ShloMosaic.Tactic Idealize.SL.Sem
open Cert.KernelIdeal.Block (col blk lan col_blk blk_col lan_col)
open Cert.KernelIdeal.Whole (U W E R6 R7 R8 R9 R10 R11 arr)

/-- A column is a block and a lane: the array's entry read through its blocks. -/
theorem split_apply {α : Type} (x : S8192x5120.Idx → α) (r : Fin 8192) (b : Fin 40) (l : Fin 128) :
    shapeCast S8192x40x128 x shapeCasts_S8192x5120_S8192x40x128 (ix3 r b l) = x (ix2 r (col b l)) := by
  pointwise
  exact congrArg x (congrArg (ix2 r) (Fin.ext (congrArg (· + l.val) (Nat.mul_comm b.val 128))))

theorem split4_apply {α : Type} (x : S4x8192x5120.Idx → α) (p : Fin 4) (r : Fin 8192) (b : Fin 40) (l : Fin 128) :
    shapeCast S4x8192x40x128 x shapeCasts_S4x8192x5120_S4x8192x40x128 (ix4 p r b l) = x (ix3 p r (col b l)) := by
  pointwise
  exact congrArg x (congrArg (ix3 p r) (Fin.ext (congrArg (· + l.val) (Nat.mul_comm b.val 128))))

theorem join_apply {α : Type} (x : S8192x40x128.Idx → α) (r : Fin 8192) (b : Fin 40) (l : Fin 128) :
    shapeCast S8192x5120 x shapeCasts_S8192x40x128_S8192x5120 (ix2 r (col b l)) = x (ix3 r b l) := by
  pointwise
  exact congrArg₂ (fun b l => x (ix3 r b l)) (blk_col b l) (lan_col b l)

section
variable (n : Vec Ideal S8192 .i32) (c : Vec Ideal S4x8192x5120 .fp8e5m2) (s : Vec Ideal S4x8192x40 .f32)

/-- The gradient, as the reference adds it up. -/
def rg (r : Fin 8192) (b : Fin 40) (l : Fin 128) : EReal :=
  Num.rGrad (n (ix1 r)) (fun p => c (ix3 p r (col b l))) (fun p => s (ix3 p r b))

theorem pay3_apply (r : Fin 8192) (b : Fin 40) (l : Fin 128) : k0_pay3 (F := Ideal) n c s (ix2 r (col b l)) = rg n c s r b l := by
  unfold k0_pay3
  rw [join_apply]
  pointwise
  unfold rg Num.rGrad
  rw [Num.w32_zero]
  refine congrArg₂ Ideal.div (Finset.sum_congr rfl fun q _ => ?_) rfl
  exact congrArg (fun k => Scalar.select (IntOp.cmpi .slt (BitVec.ofNat 32 q.val) (n (ix1 r))) (c (ix3 q r k) * s (ix3 q r b)) (0 : EReal))
    (Fin.ext (congrArg (· + l.val) (Nat.mul_comm b.val 128)))

variable (p m v : Vec Ideal S8192x5120 .f32)

theorem pay4_apply (r : Fin 8192) (b : Fin 40) (l : Fin 128) :
    k0_pay4 (F := Ideal) n c s m (ix2 r (col b l)) = Num.mom (m (ix2 r (col b l))) (rg n c s r b l) := by
  rw [← pay3_apply]; rfl

theorem pay5_apply (r : Fin 8192) (b : Fin 40) (l : Fin 128) :
    k0_pay5 (F := Ideal) n c s v (ix2 r (col b l)) = Num.vel (v (ix2 r (col b l))) (rg n c s r b l) := by
  rw [← pay3_apply]; rfl

/-- The update, through the reference's two bias corrections. -/
theorem pay8_apply (r : Fin 8192) (b : Fin 40) (l : Fin 128) :
    k0_pay8 (F := Ideal) p (k0_pay6 n c s m) (k0_pay7 n c s v) (ix2 r (col b l)) = U p m v (rg n c s) r b l := by
  unfold U
  rw [← pay4_apply, ← pay5_apply]; rfl

theorem pay9_apply (r : Fin 8192) (b : Fin 40) (l : Fin 128) :
    k0_pay9 (F := Ideal) p (k0_pay6 n c s m) (k0_pay7 n c s v) (ix2 r (col b l)) = W p m v (rg n c s) r b l := by
  unfold W
  rw [← pay8_apply]; rfl

theorem pay10_apply (r : Fin 8192) (b : Fin 40) (l : Fin 128) :
    k0_pay10 (F := Ideal) p (k0_pay6 n c s m) (k0_pay7 n c s v) (ix3 r b l) = W p m v (rg n c s) r b l := by
  rw [← pay9_apply]
  unfold k0_pay10
  exact split_apply _ r b l

/-- The reference's exponents from the blocks' largest magnitudes. -/
def expV (a : FVec Ideal S8192x40 .f32) : FVec Ideal S8192x40 .f32 :=
  have am := mulf a (broadcast S8192x40 (Scalar.ofBits .f32 0x3B124925#32))
  select (andi (cmpf .oge am (broadcast S8192x40 (Scalar.ofBits .f32 0x00800000#32))) (cmpf .ole am (broadcast S8192x40 (Scalar.ofBits .f32 0x7F7FFFFF#32))))
    (addf (floor (divf (log am) (broadcast S8192x40 (Scalar.log (Scalar.ofBits .f32 0x40000000#32))))) (broadcast S8192x40 (Scalar.ofBits .f32 0x3F800000#32)))
    (broadcast S8192x40 (Scalar.ofBits .f32 0x00000000#32))

theorem expV_apply (a : FVec Ideal S8192x40 .f32) (j : S8192x40.Idx) : expV a j = Num.expo (a j) := rfl

/-- The reference's codes from the weights and the factors over each lane. -/
def codeV (x f : FVec Ideal S8192x40x128 .f32) : FVec Ideal S8192x40x128 .f32 :=
  minimumf (broadcast S8192x40x128 (Scalar.ofBits .f32 0x43E00000#32)) (maximumf (broadcast S8192x40x128 (Scalar.ofBits .f32 0xC3E00000#32)) (mulf x f))

theorem codeV_apply (x f : FVec Ideal S8192x40x128 .f32) (j : S8192x40x128.Idx) : codeV x f j = Num.code (x j) (f j) := rfl

/-- The factor that a block's exponent makes of its weights. -/
def facV (e : FVec Ideal S8192x40 .f32) : FVec Ideal S8192x40 .f32 := exp2 (subf (broadcast S8192x40 (Scalar.ofBits .f32 0x00000000#32)) e)

theorem facV_apply (e : FVec Ideal S8192x40 .f32) (j : S8192x40.Idx) : facV e j = Ideal.exp2 (Num.w32 0x00000000#32 - e j) := rfl

/-- The largest magnitude of a block's row. -/
theorem top_apply (x : FVec Ideal S8192x40x128 .f32) (r : Fin 8192) (b : Fin 40) :
    multiReduction .maximumf [2] S8192x40 (absf x) 0xFF800000#32 reduces_S8192x40x128_S8192x40 (.inl rfl) rfl (ix2 r b) = Num.rowMax fun l => x (ix3 r b l) := by
  pointwise
  rfl

/-- A block's value over the block's lanes. -/
theorem over_apply (y : FVec Ideal S8192x40 .f32) (r : Fin 8192) (b : Fin 40) (l : Fin 128) :
    broadcastTo S8192x40x128 (shapeCast S8192x40x1 y shapeCasts_S8192x40_S8192x40x1) broadcasts_S8192x40x1_S8192x40x128 (ix3 r b l) = y (ix2 r b) := by
  pointwise

/-- The exponent of a block's scale. -/
theorem pay11_apply (r : Fin 8192) (b : Fin 40) :
    k0_pay11 (F := Ideal) p (k0_pay6 n c s m) (k0_pay7 n c s v) (ix2 r b) = E p m v (rg n c s) r b := by
  unfold E
  rw [← (funext fun l => pay10_apply n c s p m v r b l : (fun l => k0_pay10 (F := Ideal) p (k0_pay6 n c s m) (k0_pay7 n c s v) (ix3 r b l)) = _), ← top_apply, ← expV_apply]
  rfl

/-- The code of an entry. -/
theorem pay12_apply (r : Fin 8192) (b : Fin 40) (l : Fin 128) :
    k0_pay12 (F := Ideal) p (k0_pay6 n c s m) (k0_pay7 n c s v) (ix3 r b l)
      = Num.code (W p m v (rg n c s) r b l) (Ideal.exp2 (Num.w32 0x00000000#32 - E p m v (rg n c s) r b)) := by
  rw [← pay10_apply, ← pay11_apply, ← facV_apply,
    ← over_apply (facV (k0_pay11 (F := Ideal) p (k0_pay6 n c s m) (k0_pay7 n c s v))) r b l, ← codeV_apply]
  rfl

/-- An array that reads `f` at each row, block and lane. -/
theorem eq_arr (x : S8192x5120.Idx → EReal) (f : Fin 8192 → Fin 40 → Fin 128 → EReal) (h : ∀ r b l, x (ix2 r (col b l)) = f r b l) : x = arr f := by
  funext y
  have e : (ix2 (y 0) (col (blk (y 1)) (lan (y 1))) : S8192x5120.Idx) = y := by
    funext a
    match a with
    | ⟨0, _⟩ => rfl
    | ⟨1, _⟩ => exact col_blk (y 1)
  exact (congrArg x e).symm.trans (h (y 0) (blk (y 1)) (lan (y 1)))

open Cert.ReferenceIdeal.Value

theorem pay13_eq : k0_pay13 (F := Ideal) c s p m v n = k0_pay6 n c s m := by
  unfold k0_pay13
  rw [View.ld_unit_zero (S := S8192) (by decide), View.ld_unit_zero (S := S4x8192x5120) (by decide), View.ld_unit_zero (S := S4x8192x40) (by decide),
    View.ld_unit_zero (S := S8192x5120) (by decide)]

theorem pay14_eq : k0_pay14 (F := Ideal) c s p m v n = k0_pay7 n c s v := by
  unfold k0_pay14
  rw [View.ld_unit_zero (S := S8192) (by decide), View.ld_unit_zero (S := S4x8192x5120) (by decide), View.ld_unit_zero (S := S4x8192x40) (by decide),
    View.ld_unit_zero (S := S8192x5120) (by decide)]

theorem pay1_apply (x : FVec Ideal S8192x40x128 .f32) (r : Fin 8192) (b : Fin 40) (l : Fin 128) :
    k0_pay1 x (ix2 r (col b l)) = x (ix3 r b l) := join_apply x r b l

theorem pay2_apply (e : FVec Ideal S8192x40 .f32) (b : Fin 40) (r : Fin 8192) : k0_pay2 e (ix2 b r) = Ideal.exp2 (e (ix2 r b)) := by
  unfold k0_pay2
  pointwise
  rfl

theorem G6_eq : G6 (F := Ideal) c s p m v n = R6 p m v (rg n c s) := by
  unfold G6
  rw [pay13_eq, pay14_eq]
  exact eq_arr _ _ (pay9_apply n c s p m v)

theorem G7_eq : G7 (F := Ideal) c s p m v n = R7 m (rg n c s) := eq_arr _ _ (pay4_apply n c s m)

theorem G8_eq : G8 (F := Ideal) c s p m v n = R8 v (rg n c s) := eq_arr _ _ (pay5_apply n c s v)

theorem G9_eq : G9 (F := Ideal) c s p m v n = R9 p m v (rg n c s) := by
  unfold G9
  rw [pay13_eq, pay14_eq]
  exact eq_arr _ _ (pay8_apply n c s p m v)

theorem G10_eq : G10 (F := Ideal) c s p m v n = R10 p m v (rg n c s) := by
  unfold G10
  rw [pay13_eq, pay14_eq]
  exact eq_arr _ _ fun r b l => (pay1_apply _ r b l).trans (pay12_apply n c s p m v r b l)

theorem G11_eq : G11 (F := Ideal) c s p m v n = R11 p m v (rg n c s) := by
  unfold G11
  rw [pay13_eq, pay14_eq]
  funext y
  have e : (ix2 (y 0) (y 1) : S40x8192.Idx) = y := by
    funext a
    match a with
    | ⟨0, _⟩ => rfl
    | ⟨1, _⟩ => rfl
  have h := (pay2_apply _ (y 0) (y 1)).trans (congrArg Ideal.exp2 (pay11_apply n c s p m v (y 1) (y 0)))
  rw [e] at h
  exact h

end

end Cert.ReferenceIdeal.Read

end
-- ==== Proof.lean ====
module

public import proofs.«01_k».proof.Proof.Whole
public import proofs.«01_k».proof.Proof.Ref
public import proofs.«01_k».proof.Proof.Gen.KernelIdeal.Value
public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_pre
public import Idealize.ShloMosaic.Adequacy
public import Idealize.ShloMosaic.Init

@[expose] public section

noncomputable section

namespace Cert.Proof

open Idealize.ShloMosaic Idealize.ShloMosaic.Pointwise Idealize.SL.Sem Cert.KernelIdeal.Whole Cert.ReferenceIdeal.Read

/-- The precondition: no row's count of contributors is zero. -/
theorem count_ne (m : (ℓ : Loc Cert.KernelIdeal.nD Cert.KernelIdeal.τ Cert.KernelIdeal.sig) → Buf (Elt Ideal) ℓ)
    (h : Cert.Pre_KernelIdeal_pre m) (c : Dev Cert.KernelIdeal.nD) (r : Fin 8192) : a5 m c (ix1 r) ≠ 0#32 := by
  intro e
  have h1 : IntOp.cmpi .ne (a5 m c (ix1 r)) 0#32 = 1#1 := congrFun (h c) (ix1 r)
  rw [e] at h1
  exact absurd h1 (by decide)

/-- The kernel's mean gradient is the reference's. -/
theorem grad_eq (m : (ℓ : Loc Cert.KernelIdeal.nD Cert.KernelIdeal.τ Cert.KernelIdeal.sig) → Buf (Elt Ideal) ℓ)
    (h : Cert.Pre_KernelIdeal_pre m) (c : Dev Cert.KernelIdeal.nD) : kg m c = rg (a5 m c) (a0 m c) (a1 m c) := by
  funext r b l
  exact Num.kGrad_eq (a5 m c (ix1 r)) (count_ne m h c r) _ _

/-- The six results of kernel and reference agree. -/
theorem algebraic : Cert.algebraic_KernelIdeal_ReferenceIdeal_pre_pre := by
  intro m g m' g' hp hm
  refine ⟨fun c => R6 (a2 m c) (a3 m c) (a4 m c) (kg m c), fun c => R7 (a3 m c) (kg m c), fun c => R8 (a4 m c) (kg m c),
    fun c => R9 (a2 m c) (a3 m c) (a4 m c) (kg m c), fun c => R10 (a2 m c) (a3 m c) (a4 m c) (kg m c),
    fun c => R11 (a2 m c) (a3 m c) (a4 m c) (kg m c), ?_, ?_⟩
  · refine (θ_run _ _ _).mono (fun r h c => ?_) (Cert.KernelIdeal.Value.run_blocks m g)
    obtain ⟨h6, h7, h8, h9, h10, h11, k⟩ := h c
    exact ⟨h6.trans (final6 m c), h7.trans (final7 m c), h8.trans (final8 m c), h9.trans (final9 m c),
      h10.trans (final10 m c), h11.trans (final11 m c), k⟩
  · refine (θ_run _ _ _).mono (fun r h c => ?_) (Cert.ReferenceIdeal.Value.run m' g')
    obtain ⟨h6, h7, h8, h9, h10, h11, k⟩ := h c
    obtain ⟨e0, e1, e2, e3, e4, e5⟩ := hm c
    rw [e0, e1, e2, e3, e4, e5] at h6 h7 h8 h9 h10 h11
    beta_reduce
    rw [grad_eq m hp c]
    exact ⟨h6.trans (G6_eq _ _ _ _ _ _), h7.trans (G7_eq _ _ _ _ _ _), h8.trans (G8_eq _ _ _ _ _ _),
      h9.trans (G9_eq _ _ _ _ _ _), h10.trans (G10_eq _ _ _ _ _ _), h11.trans (G11_eq _ _ _ _ _ _), k⟩

theorem claim : Cert.Claim := ⟨Cert.Kernel.Gen.facts, Cert.KernelIdeal.Gen.facts, Cert.ReferenceIdeal.Gen.facts, Cert.Pre_pre.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
